-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_tables : Cert.Pre_tables.Facts] (m : (ℓ : Loc Cert.Kernel3.nD Cert.Kernel3.τ Cert.Kernel3.sig) → Buf (Elt Bits) ℓ) : Prop :=
  ∀ c : Dev Cert.Kernel3.nD,
    (Cert.Pre_tables.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))).1 = (fun _ => 1#1)
    ∧ (Cert.Pre_tables.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))).2.1 = (fun _ => 1#1)
    ∧ (Cert.Pre_tables.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))).2.2 = (fun _ => 1#1)

def Pre_Kernel3Ideal [hPre_tables : Cert.Pre_tables.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 = (fun _ => 1#1)
    ∧ (Cert.Pre_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tables [hPre_tables : Cert.Pre_tables.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.1 = (fun _ => 1#1)
    ∧ (Cert.Pre_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_tables : Cert.Pre_tables.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_tables : Cert.Pre_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_tables [hReference3Ideal : Cert.Reference3Ideal.Facts] [hPre_tables : Cert.Pre_tables.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tables m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v54) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_tables : Cert.Pre_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v69) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_tables : Cert.Pre_tables.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_tables := hPre_tables)
    ∧ quiescent_Kernel3Ideal (hKernel3Ideal := hKernel3Ideal) (hPre_tables := hPre_tables)
    ∧ quiescent_Reference3Ideal (hReference3Ideal := hReference3Ideal)
    ∧ quiescent_Reference3Ideal_pre_tables (hReference3Ideal := hReference3Ideal) (hPre_tables := hPre_tables)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_tables := hPre_tables)
-- ==== Pre_finite.lean ====
abbrev S32768x1536 : Shape := ⟨2, ![32768, 1536]⟩
abbrev S8x192 : Shape := ⟨2, ![8, 192]⟩
abbrev S_ : Shape := ⟨0, ![]⟩

class Facts : Prop where
  bcast_S_S32768x1536 : S_.BroadcastsInDim S32768x1536 (![] : Fin 0 → Fin S32768x1536.rank)
  bcast_S_S8x192 : S_.BroadcastsInDim S8x192 (![] : Fin 0 → Fin S8x192.rank)

variable [Facts]

def fn {F : FTy → Type} [FloatOps F] (main_arg0 : FVec F S32768x1536 .bf16) (main_arg1 : FVec F S8x192 .f32) : IVec S32768x1536 1 × IVec S8x192 1 :=
  let main_v0 : FVec F S32768x1536 .bf16 := Host.absf main_arg0
  let main_cst : FVec F S_ .bf16 := constant S_ .bf16 0x7F80#16
  let main_v1 : FVec F S32768x1536 .bf16 := broadcastInDim S32768x1536 ![] bcast_S_S32768x1536 main_cst
  let main_v2 : IVec S32768x1536 1 := cmpf .olt main_v0 main_v1
  let main_v3 : FVec F S8x192 .f32 := Host.absf main_arg1
  let main_cst_0 : FVec F S_ .f32 := constant S_ .f32 0x7F800000#32
  let main_v4 : FVec F S8x192 .f32 := broadcastInDim S8x192 ![] bcast_S_S8x192 main_cst_0
  let main_v5 : IVec S8x192 1 := cmpf .olt main_v3 main_v4
  (main_v2, main_v5)
-- ==== Pre_tables.lean ====
abbrev S316 : Shape := ⟨1, ![316]⟩
abbrev S1 : Shape := ⟨1, ![1]⟩
abbrev S161792x512 : Shape := ⟨2, ![161792, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S316 : S_.BroadcastsInDim S316 (![] : Fin 0 → Fin S316.rank)
  bcast_S_S1 : S_.BroadcastsInDim S1 (![] : Fin 0 → Fin S1.rank)

variable [Facts]

def fn {F : FTy → Type} [FloatOps F] (main_arg0 : IVec S316 32) (main_arg1 : IVec S1 32) (main_arg2 : IVec S161792x512 32) (main_arg3 : FVec F S32x1024x2048 .f32) (main_arg4 : FVec F S32x2048 .f32) (main_arg5 : FVec F S32x1024x1024 .f32) (main_arg6 : FVec F S32x1024 .f32) : IVec S316 1 × IVec S316 1 × IVec S1 1 :=
  let main_c : IVec S_ 32 := constantI S_ 32 0#32
  let main_v0 : IVec S316 32 := broadcastInDim S316 ![] bcast_S_S316 main_c
  let main_v1 : IVec S316 1 := cmpi .sge main_arg0 main_v0
  let main_c_0 : IVec S_ 32 := constantI S_ 32 32#32
  let main_v2 : IVec S316 32 := broadcastInDim S316 ![] bcast_S_S316 main_c_0
  let main_v3 : IVec S316 1 := cmpi .slt main_arg0 main_v2
  let main_c_1 : IVec S_ 32 := constantI S_ 32 1#32
  let main_v4 : IVec S1 32 := broadcastInDim S1 ![] bcast_S_S1 main_c_1
  let main_v5 : IVec S1 1 := cmpi .sge main_arg1 main_v4
  (main_v1, main_v3, main_v5)
-- ==== Kernel.lean ====
abbrev S32768x1536 : Shape := ⟨2, ![32768, 1536]⟩
abbrev S8x192 : Shape := ⟨2, ![8, 192]⟩
abbrev S8x1 : Shape := ⟨2, ![8, 1]⟩
abbrev S8x640 : Shape := ⟨2, ![8, 640]⟩
abbrev S8x191 : Shape := ⟨2, ![8, 191]⟩
abbrev S8x194 : Shape := ⟨2, ![8, 194]⟩
abbrev S8x1025 : Shape := ⟨2, ![8, 1025]⟩
abbrev S1x8x1x1025 : Shape := ⟨4, ![1, 8, 1, 1025]⟩
abbrev S1x8x257x1025 : Shape := ⟨4, ![1, 8, 257, 1025]⟩
abbrev S8x263425 : Shape := ⟨2, ![8, 263425]⟩
abbrev S8x262144 : Shape := ⟨2, ![8, 262144]⟩
abbrev S8x256x1024 : Shape := ⟨3, ![8, 256, 1024]⟩
abbrev S8x256x768 : Shape := ⟨3, ![8, 256, 768]⟩
abbrev S256 : Shape := ⟨1, ![256]⟩
abbrev S256x1 : Shape := ⟨2, ![256, 1]⟩
abbrev S768 : Shape := ⟨1, ![768]⟩
abbrev S1x768 : Shape := ⟨2, ![1, 768]⟩
abbrev S_ : Shape := ⟨0, ![]⟩
abbrev S256x768 : Shape := ⟨2, ![256, 768]⟩
abbrev S1x256x768 : Shape := ⟨3, ![1, 256, 768]⟩
abbrev S32768x512 : Shape := ⟨2, ![32768, 512]⟩
abbrev S4096x128 : Shape := ⟨2, ![4096, 128]⟩
abbrev S512x128 : Shape := ⟨2, ![512, 128]⟩
abbrev S2x256x768 : Shape := ⟨3, ![2, 256, 768]⟩
abbrev S4608x128 : Shape := ⟨2, ![4608, 128]⟩
abbrev S2x4608x128 : Shape := ⟨3, ![2, 4608, 128]⟩
abbrev S1x128 : Shape := ⟨2, ![1, 128]⟩
abbrev S1x512x128 : Shape := ⟨3, ![1, 512, 128]⟩
abbrev S1x4096x128 : Shape := ⟨3, ![1, 4096, 128]⟩
abbrev S256x64 : Shape := ⟨2, ![256, 64]⟩
abbrev S768x64 : Shape := ⟨2, ![768, 64]⟩
abbrev S1x768x128 : Shape := ⟨3, ![1, 768, 128]⟩
abbrev S768x128 : Shape := ⟨2, ![768, 128]⟩
abbrev S256x128 : Shape := ⟨2, ![256, 128]⟩

abbrev nBuf : Space → Nat
  | .hbm => 71
  | .vmem => 16
  | .smem => 0
  | _ => 0

abbrev bufTy : (tb : Table) → Fin (tcTables nBuf tb) → BufTy
  | .hbm, ⟨0, _⟩ => ⟨S32768x1536, .bf16⟩
  | .hbm, ⟨1, _⟩ => ⟨S8x192, .f32⟩
  | .hbm, ⟨2, _⟩ => ⟨S8x1, .f32⟩
  | .hbm, ⟨3, _⟩ => ⟨S8x640, .f32⟩
  | .hbm, ⟨4, _⟩ => ⟨S8x191, .f32⟩
  | .hbm, ⟨5, _⟩ => ⟨S8x1, .f32⟩
  | .hbm, ⟨6, _⟩ => ⟨S8x194, .f32⟩
  | .hbm, ⟨7, _⟩ => ⟨S8x1025, .f32⟩
  | .hbm, ⟨8, _⟩ => ⟨S1x8x1x1025, .f32⟩
  | .hbm, ⟨9, _⟩ => ⟨S1x8x257x1025, .f32⟩
  | .hbm, ⟨10, _⟩ => ⟨S8x263425, .f32⟩
  | .hbm, ⟨11, _⟩ => ⟨S8x262144, .f32⟩
  | .hbm, ⟨12, _⟩ => ⟨S8x256x1024, .f32⟩
  | .hbm, ⟨13, _⟩ => ⟨S8x256x768, .f32⟩
  | .hbm, ⟨14, _⟩ => ⟨S256, .i32⟩
  | .hbm, ⟨15, _⟩ => ⟨S256x1, .i32⟩
  | .hbm, ⟨16, _⟩ => ⟨S768, .i32⟩
  | .hbm, ⟨17, _⟩ => ⟨S1x768, .i32⟩
  | .hbm, ⟨18, _⟩ => ⟨S_, .i32⟩
  | .hbm, ⟨19, _⟩ => ⟨S_, .i32⟩
  | .hbm, ⟨20, _⟩ => ⟨S1x768, .i32⟩
  | .hbm, ⟨21, _⟩ => ⟨S1x768, .i32⟩
  | .hbm, ⟨22, _⟩ => ⟨S1x768, .i32⟩
  | .hbm, ⟨23, _⟩ => ⟨S_, .i32⟩
  | .hbm, ⟨24, _⟩ => ⟨S1x768, .i32⟩
  | .hbm, ⟨25, _⟩ => ⟨S1x768, .i1⟩
  | .hbm, ⟨26, _⟩ => ⟨S1x768, .i32⟩
  | .hbm, ⟨27, _⟩ => ⟨S1x768, .i32⟩
  | .hbm, ⟨28, _⟩ => ⟨S_, .i32⟩
  | .hbm, ⟨29, _⟩ => ⟨S1x768, .i32⟩
  | .hbm, ⟨30, _⟩ => ⟨S1x768, .i1⟩
  | .hbm, ⟨31, _⟩ => ⟨S1x768, .i1⟩
  | .hbm, ⟨32, _⟩ => ⟨S_, .i32⟩
  | .hbm, ⟨33, _⟩ => ⟨S1x768, .i32⟩
  | .hbm, ⟨34, _⟩ => ⟨S1x768, .i32⟩
  | .hbm, ⟨35, _⟩ => ⟨S1x768, .i32⟩
  | .hbm, ⟨36, _⟩ => ⟨S_, .i32⟩
  | .hbm, ⟨37, _⟩ => ⟨S_, .i32⟩
  | .hbm, ⟨38, _⟩ => ⟨S256x1, .i32⟩
  | .hbm, ⟨39, _⟩ => ⟨S256x1, .i32⟩
  | .hbm, ⟨40, _⟩ => ⟨S256x1, .i32⟩
  | .hbm, ⟨41, _⟩ => ⟨S_, .i32⟩
  | .hbm, ⟨42, _⟩ => ⟨S256x1, .i32⟩
  | .hbm, ⟨43, _⟩ => ⟨S256x1, .i1⟩
  | .hbm, ⟨44, _⟩ => ⟨S256x1, .i32⟩
  | .hbm, ⟨45, _⟩ => ⟨S256x1, .i32⟩
  | .hbm, ⟨46, _⟩ => ⟨S_, .i32⟩
  | .hbm, ⟨47, _⟩ => ⟨S256x1, .i32⟩
  | .hbm, ⟨48, _⟩ => ⟨S256x1, .i1⟩
  | .hbm, ⟨49, _⟩ => ⟨S256x1, .i1⟩
  | .hbm, ⟨50, _⟩ => ⟨S_, .i32⟩
  | .hbm, ⟨51, _⟩ => ⟨S256x1, .i32⟩
  | .hbm, ⟨52, _⟩ => ⟨S256x1, .i32⟩
  | .hbm, ⟨53, _⟩ => ⟨S256x1, .i32⟩
  | .hbm, ⟨54, _⟩ => ⟨S256x768, .i32⟩
  | .hbm, ⟨55, _⟩ => ⟨S256x768, .i32⟩
  | .hbm, ⟨56, _⟩ => ⟨S256x768, .i32⟩
  | .hbm, ⟨57, _⟩ => ⟨S_, .i32⟩
  | .hbm, ⟨58, _⟩ => ⟨S256x768, .i32⟩
  | .hbm, ⟨59, _⟩ => ⟨S256x768, .i1⟩
  | .hbm, ⟨60, _⟩ => ⟨S_, .i32⟩
  | .hbm, ⟨61, _⟩ => ⟨S256x768, .i32⟩
  | .hbm, ⟨62, _⟩ => ⟨S256x768, .i1⟩
  | .hbm, ⟨63, _⟩ => ⟨S256x768, .i1⟩
  | .hbm, ⟨64, _⟩ => ⟨S1x256x768, .i1⟩
  | .hbm, ⟨65, _⟩ => ⟨S_, .f32⟩
  | .hbm, ⟨66, _⟩ => ⟨S_, .f32⟩
  | .hbm, ⟨67, _⟩ => ⟨S8x256x768, .i1⟩
  | .hbm, ⟨68, _⟩ => ⟨S8x256x768, .f32⟩
  | .hbm, ⟨69, _⟩ => ⟨S8x256x768, .f32⟩
  | .hbm, ⟨70, _⟩ => ⟨S32768x512, .bf16⟩
  | .local _ .vmem, ⟨0, _⟩ => ⟨S4096x128, .bf16⟩
  | .local _ .vmem, ⟨1, _⟩ => ⟨S4096x128, .bf16⟩
  | .local _ .vmem, ⟨2, _⟩ => ⟨S512x128, .bf16⟩
  | .local _ .vmem, ⟨3, _⟩ => ⟨S512x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .bf16⟩
  | .local _ .vmem, ⟨7, _⟩ => ⟨S512x128, .bf16⟩
  | .local _ .vmem, ⟨8, _⟩ => ⟨S4096x128, .bf16⟩
  | .local _ .vmem, ⟨9, _⟩ => ⟨S4096x128, .bf16⟩
  | .local _ .vmem, ⟨10, _⟩ => ⟨S2x256x768, .f32⟩
  | .local _ .vmem, ⟨11, _⟩ => ⟨S2x256x768, .f32⟩
  | .local _ .vmem, ⟨12, _⟩ => ⟨S4096x128, .bf16⟩
  | .local _ .vmem, ⟨13, _⟩ => ⟨S4096x128, .bf16⟩
  | .local _ .vmem, ⟨14, _⟩ => ⟨S4608x128, .bf16⟩
  | .local _ .vmem, ⟨15, _⟩ => ⟨S2x4608x128, .bf16⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v16 : Ref sig .tc := ⟨.hbm, 35, rfl⟩
abbrev main_c_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_c_1 : Ref sig .tc := ⟨.hbm, 57, rfl⟩
abbrev main_v21 : Ref sig .tc := ⟨.hbm, 58, rfl⟩
abbrev main_v22 : Ref sig .tc := ⟨.hbm, 59, rfl⟩
abbrev main_c_2 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v27 : Ref sig .tc := ⟨.hbm, 69, rfl⟩
abbrev main_v28 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c8_i32 : BitVec 32 := 8#32
  let v1 : BitVec 32 := Scalar.muli v0 c8_i32
  let c8_i32_0 : BitVec 32 := 8#32
  let v2 : BitVec 32 := Scalar.muli arg2 c8_i32_0
  let c1_i32 : BitVec 32 := 1#32
  let v3 : BitVec 32 := Scalar.subi v2 c1_i32
  let c0_i32 : BitVec 32 := 0#32
  let v4 : BitVec 32 := Scalar.maxsi v3 c0_i32
  let v5 : BitVec 32 := Scalar.addi v1 v4
  let c4_i32 : BitVec 32 := 4#32
  let v6 : BitVec 32 := Scalar.addi c4_i32 arg1
  let c0_i32_1 : BitVec 32 := 0#32
  ![v5.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c8_i32 : BitVec 32 := 8#32
  let v1 : BitVec 32 := Scalar.muli v0 c8_i32
  let c8_i32_0 : BitVec 32 := 8#32
  let v2 : BitVec 32 := Scalar.muli arg2 c8_i32_0
  let c1_i32 : BitVec 32 := 1#32
  let v3 : BitVec 32 := Scalar.subi v2 c1_i32
  let c0_i32 : BitVec 32 := 0#32
  let v4 : BitVec 32 := Scalar.maxsi v3 c0_i32
  let v5 : BitVec 32 := Scalar.addi v1 v4
  let c8_i32_1 : BitVec 32 := 8#32
  let v6 : BitVec 32 := Scalar.addi c8_i32_1 arg1
  let c0_i32_2 : BitVec 32 := 0#32
  ![v5.toNat, v6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S32768x1536 : Shape := ⟨2, ![32768, 1536]⟩
abbrev S8x192 : Shape := ⟨2, ![8, 192]⟩
abbrev S32768x512 : Shape := ⟨2, ![32768, 512]⟩
abbrev S4x128x64x8x64 : Shape := ⟨5, ![4, 128, 64, 8, 64]⟩
abbrev S4x8x128x64x64 : Shape := ⟨5, ![4, 8, 128, 64, 64]⟩
abbrev S_ : Shape := ⟨0, ![]⟩
abbrev S4x8x136x64x64 : Shape := ⟨5, ![4, 8, 136, 64, 64]⟩
abbrev S4x8x128x64x1x64 : Shape := ⟨6, ![4, 8, 128, 64, 1, 64]⟩
abbrev S4x8x128x64x9x64 : Shape := ⟨6, ![4, 8, 128, 64, 9, 64]⟩
abbrev S64 : Shape := ⟨1, ![64]⟩
abbrev S64x1x1 : Shape := ⟨3, ![64, 1, 1]⟩
abbrev S9 : Shape := ⟨1, ![9]⟩
abbrev S1x9x1 : Shape := ⟨3, ![1, 9, 1]⟩
abbrev S1x1x64 : Shape := ⟨3, ![1, 1, 64]⟩
abbrev S1x9x64 : Shape := ⟨3, ![1, 9, 64]⟩
abbrev S64x9x64 : Shape := ⟨3, ![64, 9, 64]⟩
abbrev S64x9x64x1 : Shape := ⟨4, ![64, 9, 64, 1]⟩
abbrev S8x64x9x64 : Shape := ⟨4, ![8, 64, 9, 64]⟩
abbrev S128 : Shape := ⟨1, ![128]⟩
abbrev S128x1 : Shape := ⟨2, ![128, 1]⟩
abbrev S1x9 : Shape := ⟨2, ![1, 9]⟩
abbrev S128x9 : Shape := ⟨2, ![128, 9]⟩
abbrev S1x1x128x1x9x1 : Shape := ⟨6, ![1, 1, 128, 1, 9, 1]⟩
abbrev S1x8x1x64x9x64 : Shape := ⟨6, ![1, 8, 1, 64, 9, 64]⟩
abbrev S4x8x128x64x576 : Shape := ⟨5, ![4, 8, 128, 64, 576]⟩
abbrev S4x8x128x64 : Shape := ⟨4, ![4, 8, 128, 64]⟩
abbrev S4x8x128x64x1 : Shape := ⟨5, ![4, 8, 128, 64, 1]⟩

abbrev nBuf : Space → Nat
  | .hbm => 166
  | .vmem => 0
  | .smem => 0
  | _ => 0

abbrev hbmTy0_0 (i : Nat) : BufTy := match i % 128 with
  | 0 => ⟨S32768x1536, .bf16⟩
  | 1 => ⟨S8x192, .f32⟩
  | 2 => ⟨S32768x1536, .f32⟩
  | 3 => ⟨S32768x512, .f32⟩
  | 4 => ⟨S32768x512, .f32⟩
  | 5 => ⟨S32768x512, .f32⟩
  | 6 => ⟨S4x128x64x8x64, .f32⟩
  | 7 => ⟨S4x8x128x64x64, .f32⟩
  | 8 => ⟨S4x128x64x8x64, .f32⟩
  | 9 => ⟨S4x8x128x64x64, .f32⟩
  | 10 => ⟨S_, .i32⟩
  | 11 => ⟨S_, .f32⟩
  | 12 => ⟨S4x8x136x64x64, .f32⟩
  | 13 => ⟨S4x128x64x8x64, .f32⟩
  | 14 => ⟨S4x8x128x64x64, .f32⟩
  | 15 => ⟨S_, .i32⟩
  | 16 => ⟨S_, .f32⟩
  | 17 => ⟨S4x8x136x64x64, .f32⟩
  | 18 => ⟨S4x8x128x64x64, .f32⟩
  | 19 => ⟨S4x8x128x64x64, .f32⟩
  | 20 => ⟨S4x8x128x64x64, .f32⟩
  | 21 => ⟨S4x8x128x64x64, .f32⟩
  | 22 => ⟨S4x8x128x64x64, .f32⟩
  | 23 => ⟨S4x8x128x64x64, .f32⟩
  | 24 => ⟨S4x8x128x64x64, .f32⟩
  | 25 => ⟨S4x8x128x64x64, .f32⟩
  | 26 => ⟨S4x8x128x64x64, .f32⟩
  | 27 => ⟨S4x8x128x64x64, .f32⟩
  | 28 => ⟨S4x8x128x64x64, .f32⟩
  | 29 => ⟨S4x8x128x64x64, .f32⟩
  | 30 => ⟨S4x8x128x64x64, .f32⟩
  | 31 => ⟨S4x8x128x64x64, .f32⟩
  | 32 => ⟨S4x8x128x64x64, .f32⟩
  | 33 => ⟨S4x8x128x64x64, .f32⟩
  | 34 => ⟨S4x8x128x64x64, .f32⟩
  | 35 => ⟨S4x8x128x64x64, .f32⟩
  | 36 => ⟨S4x8x128x64x1x64, .f32⟩
  | 37 => ⟨S4x8x128x64x1x64, .f32⟩
  | 38 => ⟨S4x8x128x64x1x64, .f32⟩
  | 39 => ⟨S4x8x128x64x1x64, .f32⟩
  | 40 => ⟨S4x8x128x64x1x64, .f32⟩
  | 41 => ⟨S4x8x128x64x1x64, .f32⟩
  | 42 => ⟨S4x8x128x64x1x64, .f32⟩
  | 43 => ⟨S4x8x128x64x1x64, .f32⟩
  | 44 => ⟨S4x8x128x64x1x64, .f32⟩
  | 45 => ⟨S4x8x128x64x9x64, .f32⟩
  | 46 => ⟨S64, .i32⟩
  | 47 => ⟨S64x1x1, .i32⟩
  | 48 => ⟨S9, .i32⟩
  | 49 => ⟨S1x9x1, .i32⟩
  | 50 => ⟨S64, .i32⟩
  | 51 => ⟨S1x1x64, .i32⟩
  | 52 => ⟨S_, .i32⟩
  | 53 => ⟨S1x9x1, .i32⟩
  | 54 => ⟨S1x9x1, .i32⟩
  | 55 => ⟨S_, .i32⟩
  | 56 => ⟨S1x9x1, .i32⟩
  | 57 => ⟨S1x9x1, .i32⟩
  | 58 => ⟨S1x9x64, .i32⟩
  | 59 => ⟨S1x9x64, .i32⟩
  | 60 => ⟨S1x9x64, .i32⟩
  | 61 => ⟨S64x9x64, .i32⟩
  | 62 => ⟨S64x9x64, .i32⟩
  | 63 => ⟨S64x9x64, .i32⟩
  | 64 => ⟨S_, .i32⟩
  | 65 => ⟨S_, .i32⟩
  | 66 => ⟨S_, .i32⟩
  | 67 => ⟨S64x9x64, .i32⟩
  | 68 => ⟨S64x9x64, .i32⟩
  | 69 => ⟨S_, .i32⟩
  | 70 => ⟨S64x9x64, .i32⟩
  | 71 => ⟨S64x9x64, .i32⟩
  | 72 => ⟨S_, .i32⟩
  | 73 => ⟨S64x9x64, .i32⟩
  | 74 => ⟨S64x9x64, .i32⟩
  | 75 => ⟨S_, .i32⟩
  | 76 => ⟨S64x9x64, .i32⟩
  | 77 => ⟨S64x9x64, .i1⟩
  | 78 => ⟨S_, .i32⟩
  | 79 => ⟨S64x9x64, .i32⟩
  | 80 => ⟨S64x9x64, .i32⟩
  | 81 => ⟨S64x9x64, .i32⟩
  | 82 => ⟨S64x9x64x1, .i32⟩
  | 83 => ⟨S8x64x9x64, .f32⟩
  | 84 => ⟨S128, .i32⟩
  | 85 => ⟨S128x1, .i32⟩
  | 86 => ⟨S9, .i32⟩
  | 87 => ⟨S1x9, .i32⟩
  | 88 => ⟨S128x9, .i32⟩
  | 89 => ⟨S128x9, .i32⟩
  | 90 => ⟨S128x9, .i32⟩
  | 91 => ⟨S_, .i32⟩
  | 92 => ⟨S128x9, .i32⟩
  | 93 => ⟨S128x9, .i1⟩
  | 94 => ⟨S1x1x128x1x9x1, .i1⟩
  | 95 => ⟨S1x8x1x64x9x64, .f32⟩
  | 96 => ⟨S4x8x128x64x9x64, .f32⟩
  | 97 => ⟨S4x8x128x64x9x64, .f32⟩
  | 98 => ⟨S_, .f32⟩
  | 99 => ⟨S_, .f32⟩
  | 100 => ⟨S4x8x128x64x9x64, .i1⟩
  | 101 => ⟨S4x8x128x64x9x64, .f32⟩
  | 102 => ⟨S4x8x128x64x9x64, .f32⟩
  | 103 => ⟨S4x8x128x64x576, .f32⟩
  | 104 => ⟨S_, .f32⟩
  | 105 => ⟨S4x8x128x64, .f32⟩
  | 106 => ⟨S_, .f32⟩
  | 107 => ⟨S4x8x128x64, .f32⟩
  | 108 => ⟨S4x8x128x64, .f32⟩
  | 109 => ⟨S4x8x128x64x1, .f32⟩
  | 110 => ⟨S4x8x128x64x576, .f32⟩
  | 111 => ⟨S4x8x128x64x576, .f32⟩
  | 112 => ⟨S4x8x128x64x576, .f32⟩
  | 113 => ⟨S_, .f32⟩
  | 114 => ⟨S4x8x128x64, .f32⟩
  | 115 => ⟨S4x8x128x64x1, .f32⟩
  | 116 => ⟨S4x8x128x64x576, .f32⟩
  | 117 => ⟨S4x8x128x64x576, .f32⟩
  | 118 => ⟨S4x8x128x64x9x64, .f32⟩
  | 119 => ⟨S4x8x128x64x1x64, .f32⟩
  | 120 => ⟨S4x8x128x64x64, .f32⟩
  | 121 => ⟨S4x8x128x64x64, .f32⟩
  | 122 => ⟨S4x8x128x64x64, .f32⟩
  | 123 => ⟨S4x8x128x64x1x64, .f32⟩
  | 124 => ⟨S4x8x128x64x64, .f32⟩
  | 125 => ⟨S4x8x128x64x64, .f32⟩
  | 126 => ⟨S4x8x128x64x64, .f32⟩
  | 127 => ⟨S4x8x128x64x64, .f32⟩
  | _ => ⟨S32768x1536, .bf16⟩

abbrev hbmTy0_1 (i : Nat) : BufTy := match i % 128 with
  | 0 => ⟨S4x8x128x64x1x64, .f32⟩
  | 1 => ⟨S4x8x128x64x64, .f32⟩
  | 2 => ⟨S4x8x128x64x64, .f32⟩
  | 3 => ⟨S4x8x128x64x64, .f32⟩
  | 4 => ⟨S4x8x128x64x64, .f32⟩
  | 5 => ⟨S4x8x128x64x1x64, .f32⟩
  | 6 => ⟨S4x8x128x64x64, .f32⟩
  | 7 => ⟨S4x8x128x64x64, .f32⟩
  | 8 => ⟨S4x8x128x64x64, .f32⟩
  | 9 => ⟨S4x8x128x64x64, .f32⟩
  | 10 => ⟨S4x8x128x64x1x64, .f32⟩
  | 11 => ⟨S4x8x128x64x64, .f32⟩
  | 12 => ⟨S4x8x128x64x64, .f32⟩
  | 13 => ⟨S4x8x128x64x64, .f32⟩
  | 14 => ⟨S4x8x128x64x64, .f32⟩
  | 15 => ⟨S4x8x128x64x1x64, .f32⟩
  | 16 => ⟨S4x8x128x64x64, .f32⟩
  | 17 => ⟨S4x8x128x64x64, .f32⟩
  | 18 => ⟨S4x8x128x64x64, .f32⟩
  | 19 => ⟨S4x8x128x64x64, .f32⟩
  | 20 => ⟨S4x8x128x64x1x64, .f32⟩
  | 21 => ⟨S4x8x128x64x64, .f32⟩
  | 22 => ⟨S4x8x128x64x64, .f32⟩
  | 23 => ⟨S4x8x128x64x64, .f32⟩
  | 24 => ⟨S4x8x128x64x64, .f32⟩
  | 25 => ⟨S4x8x128x64x1x64, .f32⟩
  | 26 => ⟨S4x8x128x64x64, .f32⟩
  | 27 => ⟨S4x8x128x64x64, .f32⟩
  | 28 => ⟨S4x8x128x64x64, .f32⟩
  | 29 => ⟨S4x8x128x64x64, .f32⟩
  | 30 => ⟨S4x8x128x64x1x64, .f32⟩
  | 31 => ⟨S4x8x128x64x64, .f32⟩
  | 32 => ⟨S4x8x128x64x64, .f32⟩
  | 33 => ⟨S4x8x128x64x64, .f32⟩
  | 34 => ⟨S4x8x128x64x64, .f32⟩
  | 35 => ⟨S4x128x64x8x64, .f32⟩
  | 36 => ⟨S32768x512, .f32⟩
  | 37 => ⟨S32768x512, .bf16⟩
  | _ => ⟨S32768x1536, .bf16⟩

abbrev hbmTy (i : Nat) : BufTy := match i / 128 with
  | 0 => hbmTy0_0 i
  | 1 => hbmTy0_1 i
  | _ => ⟨S32768x1536, .bf16⟩

abbrev bufTy : (tb : Table) → Fin (tcTables nBuf tb) → BufTy
  | .hbm, ⟨i, _⟩ => hbmTy i
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_call1_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_c_1 : Ref sig .tc := ⟨.hbm, 52, rfl⟩
abbrev main_v46 : Ref sig .tc := ⟨.hbm, 53, rfl⟩
abbrev main_v47 : Ref sig .tc := ⟨.hbm, 54, rfl⟩
abbrev main_c_2 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_c_3 : Ref sig .tc := ⟨.hbm, 64, rfl⟩
abbrev main_c_4 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_v56 : Ref sig .tc := ⟨.hbm, 71, rfl⟩
abbrev main_c_5 : Ref sig .tc := ⟨.hbm, 72, rfl⟩
abbrev main_v57 : Ref sig .tc := ⟨.hbm, 73, rfl⟩
abbrev main_v58 : Ref sig .tc := ⟨.hbm, 74, rfl⟩
abbrev main_c_6 : Ref sig .tc := ⟨.hbm, 75, rfl⟩
abbrev main_v59 : Ref sig .tc := ⟨.hbm, 76, rfl⟩
abbrev main_v60 : Ref sig .tc := ⟨.hbm, 77, rfl⟩
abbrev main_c_7 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_c_8 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_v79 : Ref sig .tc := ⟨.hbm, 102, rfl⟩
abbrev main_v80 : Ref sig .tc := ⟨.hbm, 103, rfl⟩
abbrev main_cst_9 : Ref sig .tc := ⟨.hbm, 104, rfl⟩
abbrev main_v81 : Ref sig .tc := ⟨.hbm, 105, rfl⟩
abbrev main_cst_10 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_11 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024 : Shape := ⟨1, ![1024]⟩
abbrev S1024x3328 : Shape := ⟨2, ![1024, 3328]⟩
abbrev S64 : Shape := ⟨1, ![64]⟩
abbrev S32768x1024 : Shape := ⟨2, ![32768, 1024]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S32768x1536 : Shape := ⟨2, ![32768, 1536]⟩
abbrev S32768x1792 : Shape := ⟨2, ![32768, 1792]⟩
abbrev S1024x1024 : Shape := ⟨2, ![1024, 1024]⟩
abbrev S1024x1536 : Shape := ⟨2, ![1024, 1536]⟩
abbrev S1024x1792 : Shape := ⟨2, ![1024, 1792]⟩
abbrev S1024x1 : Shape := ⟨2, ![1024, 1]⟩
abbrev S1024x512 : Shape := ⟨2, ![1024, 512]⟩
abbrev S1024x256 : Shape := ⟨2, ![1024, 256]⟩

abbrev nBuf : Space → Nat
  | .hbm => 61
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3328, .f32⟩
  | .hbm, ⟨3, _⟩ => ⟨S64, .f32⟩
  | .hbm, ⟨4, _⟩ => ⟨S64, .f32⟩
  | .hbm, ⟨5, _⟩ => ⟨S32768x1024, .f32⟩
  | .hbm, ⟨6, _⟩ => ⟨S256, .i32⟩
  | .hbm, ⟨7, _⟩ => ⟨S256x1, .i32⟩
  | .hbm, ⟨8, _⟩ => ⟨S_, .i32⟩
  | .hbm, ⟨9, _⟩ => ⟨S_, .i32⟩
  | .hbm, ⟨10, _⟩ => ⟨S256x1, .i32⟩
  | .hbm, ⟨11, _⟩ => ⟨S256x1, .i32⟩
  | .hbm, ⟨12, _⟩ => ⟨S256x1, .i32⟩
  | .hbm, ⟨13, _⟩ => ⟨S_, .i32⟩
  | .hbm, ⟨14, _⟩ => ⟨S256x1, .i32⟩
  | .hbm, ⟨15, _⟩ => ⟨S256x1, .i1⟩
  | .hbm, ⟨16, _⟩ => ⟨S256x1, .i32⟩
  | .hbm, ⟨17, _⟩ => ⟨S256x1, .i32⟩
  | .hbm, ⟨18, _⟩ => ⟨S_, .i32⟩
  | .hbm, ⟨19, _⟩ => ⟨S256x1, .i32⟩
  | .hbm, ⟨20, _⟩ => ⟨S256x1, .i1⟩
  | .hbm, ⟨21, _⟩ => ⟨S256x1, .i1⟩
  | .hbm, ⟨22, _⟩ => ⟨S_, .i32⟩
  | .hbm, ⟨23, _⟩ => ⟨S256x1, .i32⟩
  | .hbm, ⟨24, _⟩ => ⟨S256x1, .i32⟩
  | .hbm, ⟨25, _⟩ => ⟨S256x1, .i32⟩
  | .hbm, ⟨26, _⟩ => ⟨S1x256, .i32⟩
  | .hbm, ⟨27, _⟩ => ⟨S_, .i32⟩
  | .hbm, ⟨28, _⟩ => ⟨S_, .i32⟩
  | .hbm, ⟨29, _⟩ => ⟨S1x256, .i32⟩
  | .hbm, ⟨30, _⟩ => ⟨S1x256, .i32⟩
  | .hbm, ⟨31, _⟩ => ⟨S1x256, .i32⟩
  | .hbm, ⟨32, _⟩ => ⟨S_, .i32⟩
  | .hbm, ⟨33, _⟩ => ⟨S1x256, .i32⟩
  | .hbm, ⟨34, _⟩ => ⟨S1x256, .i1⟩
  | .hbm, ⟨35, _⟩ => ⟨S1x256, .i32⟩
  | .hbm, ⟨36, _⟩ => ⟨S1x256, .i32⟩
  | .hbm, ⟨37, _⟩ => ⟨S_, .i32⟩
  | .hbm, ⟨38, _⟩ => ⟨S1x256, .i32⟩
  | .hbm, ⟨39, _⟩ => ⟨S1x256, .i1⟩
  | .hbm, ⟨40, _⟩ => ⟨S1x256, .i1⟩
  | .hbm, ⟨41, _⟩ => ⟨S_, .i32⟩
  | .hbm, ⟨42, _⟩ => ⟨S1x256, .i32⟩
  | .hbm, ⟨43, _⟩ => ⟨S1x256, .i32⟩
  | .hbm, ⟨44, _⟩ => ⟨S1x256, .i32⟩
  | .hbm, ⟨45, _⟩ => ⟨S256x256, .i32⟩
  | .hbm, ⟨46, _⟩ => ⟨S256x256, .i32⟩
  | .hbm, ⟨47, _⟩ => ⟨S256x256, .i1⟩
  | .hbm, ⟨48, _⟩ => ⟨S256x256, .bf16⟩
  | .hbm, ⟨49, _⟩ => ⟨S1x1024, .f32⟩
  | .hbm, ⟨50, _⟩ => ⟨S1024x3328, .bf16⟩
  | .hbm, ⟨51, _⟩ => ⟨S1x64, .f32⟩
  | .hbm, ⟨52, _⟩ => ⟨S8x64, .f32⟩
  | .hbm, ⟨53, _⟩ => ⟨S512, .f32⟩
  | .hbm, ⟨54, _⟩ => ⟨S1x512, .f32⟩
  | .hbm, ⟨55, _⟩ => ⟨S1x64, .f32⟩
  | .hbm, ⟨56, _⟩ => ⟨S8x64, .f32⟩
  | .hbm, ⟨57, _⟩ => ⟨S512, .f32⟩
  | .hbm, ⟨58, _⟩ => ⟨S1x512, .f32⟩
  | .hbm, ⟨59, _⟩ => ⟨S32768x1536, .bf16⟩
  | .hbm, ⟨60, _⟩ => ⟨S32768x1792, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3328, .bf16⟩
  | .local _ .vmem, ⟨4, _⟩ => ⟨S1x512, .f32⟩
  | .local _ .vmem, ⟨5, _⟩ => ⟨S1x512, .f32⟩
  | .local _ .vmem, ⟨6, _⟩ => ⟨S256x256, .bf16⟩
  | .local _ .vmem, ⟨7, _⟩ => ⟨S1024x1536, .bf16⟩
  | .local _ .vmem, ⟨8, _⟩ => ⟨S1024x1536, .bf16⟩
  | .local _ .vmem, ⟨9, _⟩ => ⟨S1024x1792, .bf16⟩
  | .local _ .vmem, ⟨10, _⟩ => ⟨S1024x1792, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_c_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20_0 : Ref sig .tc := ⟨.hbm, 59, rfl⟩
abbrev main_v20_1 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1792 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S4x8192x1024 : Shape := ⟨3, ![4, 8192, 1024]⟩
abbrev S1024 : Shape := ⟨1, ![1024]⟩
abbrev S1024x3328 : Shape := ⟨2, ![1024, 3328]⟩
abbrev S64 : Shape := ⟨1, ![64]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3328 : Shape := ⟨3, ![4, 8192, 3328]⟩
abbrev S4x8192x512 : Shape := ⟨3, ![4, 8192, 512]⟩
abbrev S4x8192x1792 : Shape := ⟨3, ![4, 8192, 1792]⟩
abbrev S4x8192x8x64 : Shape := ⟨4, ![4, 8192, 8, 64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S32768x512 : Shape := ⟨2, ![32768, 512]⟩
abbrev S32768x1536 : Shape := ⟨2, ![32768, 1536]⟩
abbrev S32768x1792 : Shape := ⟨2, ![32768, 1792]⟩

abbrev nBuf : Space → Nat
  | .hbm => 70
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3328, .f32⟩
  | .hbm, ⟨3, _⟩ => ⟨S64, .f32⟩
  | .hbm, ⟨4, _⟩ => ⟨S64, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S4x8192x3328, .f32⟩
  | .hbm, ⟨22, _⟩ => ⟨S4x8192x512, .f32⟩
  | .hbm, ⟨23, _⟩ => ⟨S4x8192x512, .f32⟩
  | .hbm, ⟨24, _⟩ => ⟨S4x8192x512, .f32⟩
  | .hbm, ⟨25, _⟩ => ⟨S4x8192x1792, .f32⟩
  | .hbm, ⟨26, _⟩ => ⟨S4x8192x8x64, .f32⟩
  | .hbm, ⟨27, _⟩ => ⟨S4x8192x8x64, .f32⟩
  | .hbm, ⟨28, _⟩ => ⟨S_, .f32⟩
  | .hbm, ⟨29, _⟩ => ⟨S4x8192x8, .f32⟩
  | .hbm, ⟨30, _⟩ => ⟨S4x8192x8x1, .f32⟩
  | .hbm, ⟨31, _⟩ => ⟨S_, .f32⟩
  | .hbm, ⟨32, _⟩ => ⟨S4x8192x8x1, .f32⟩
  | .hbm, ⟨33, _⟩ => ⟨S4x8192x8x1, .f32⟩
  | .hbm, ⟨34, _⟩ => ⟨S_, .f32⟩
  | .hbm, ⟨35, _⟩ => ⟨S4x8192x8x1, .f32⟩
  | .hbm, ⟨36, _⟩ => ⟨S4x8192x8x1, .f32⟩
  | .hbm, ⟨37, _⟩ => ⟨S4x8192x8x1, .f32⟩
  | .hbm, ⟨38, _⟩ => ⟨S4x8192x8x64, .f32⟩
  | .hbm, ⟨39, _⟩ => ⟨S4x8192x8x64, .f32⟩
  | .hbm, ⟨40, _⟩ => ⟨S1x1x1x64, .f32⟩
  | .hbm, ⟨41, _⟩ => ⟨S4x8192x8x64, .f32⟩
  | .hbm, ⟨42, _⟩ => ⟨S4x8192x8x64, .f32⟩
  | .hbm, ⟨43, _⟩ => ⟨S_, .f32⟩
  | .hbm, ⟨44, _⟩ => ⟨S4x8192x8x64, .f32⟩
  | .hbm, ⟨45, _⟩ => ⟨S4x8192x8x64, .f32⟩
  | .hbm, ⟨46, _⟩ => ⟨S4x8192x8x64, .f32⟩
  | .hbm, ⟨47, _⟩ => ⟨S4x8192x8x64, .f32⟩
  | .hbm, ⟨48, _⟩ => ⟨S_, .f32⟩
  | .hbm, ⟨49, _⟩ => ⟨S4x8192x8, .f32⟩
  | .hbm, ⟨50, _⟩ => ⟨S4x8192x8x1, .f32⟩
  | .hbm, ⟨51, _⟩ => ⟨S_, .f32⟩
  | .hbm, ⟨52, _⟩ => ⟨S4x8192x8x1, .f32⟩
  | .hbm, ⟨53, _⟩ => ⟨S4x8192x8x1, .f32⟩
  | .hbm, ⟨54, _⟩ => ⟨S_, .f32⟩
  | .hbm, ⟨55, _⟩ => ⟨S4x8192x8x1, .f32⟩
  | .hbm, ⟨56, _⟩ => ⟨S4x8192x8x1, .f32⟩
  | .hbm, ⟨57, _⟩ => ⟨S4x8192x8x1, .f32⟩
  | .hbm, ⟨58, _⟩ => ⟨S4x8192x8x64, .f32⟩
  | .hbm, ⟨59, _⟩ => ⟨S4x8192x8x64, .f32⟩
  | .hbm, ⟨60, _⟩ => ⟨S1x1x1x64, .f32⟩
  | .hbm, ⟨61, _⟩ => ⟨S4x8192x8x64, .f32⟩
  | .hbm, ⟨62, _⟩ => ⟨S4x8192x8x64, .f32⟩
  | .hbm, ⟨63, _⟩ => ⟨S32768x512, .f32⟩
  | .hbm, ⟨64, _⟩ => ⟨S32768x512, .f32⟩
  | .hbm, ⟨65, _⟩ => ⟨S32768x512, .f32⟩
  | .hbm, ⟨66, _⟩ => ⟨S32768x1536, .f32⟩
  | .hbm, ⟨67, _⟩ => ⟨S32768x1536, .bf16⟩
  | .hbm, ⟨68, _⟩ => ⟨S32768x1792, .f32⟩
  | .hbm, ⟨69, _⟩ => ⟨S32768x1792, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== Kernel3.lean ====
abbrev S316 : Shape := ⟨1, ![316]⟩
abbrev S1 : Shape := ⟨1, ![1]⟩
abbrev S161792x512 : Shape := ⟨2, ![161792, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S316x1 : Shape := ⟨2, ![316, 1]⟩
abbrev S32x1x2048 : Shape := ⟨3, ![32, 1, 2048]⟩
abbrev S32x1x1024 : Shape := ⟨3, ![32, 1, 1024]⟩
abbrev S161792x1024 : Shape := ⟨2, ![161792, 1024]⟩
abbrev S512x512 : Shape := ⟨2, ![512, 512]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S512x1024 : Shape := ⟨2, ![512, 1024]⟩
abbrev S1024x2048 : Shape := ⟨2, ![1024, 2048]⟩
abbrev S1024x1024 : Shape := ⟨2, ![1024, 1024]⟩
abbrev S1x1024 : Shape := ⟨2, ![1, 1024]⟩

abbrev nBuf : Space → Nat
  | .hbm => 23
  | .vmem => 14
  | .smem => 2
  | _ => 0

abbrev bufTy : (tb : Table) → Fin (tcTables nBuf tb) → BufTy
  | .hbm, ⟨0, _⟩ => ⟨S316, .i32⟩
  | .hbm, ⟨1, _⟩ => ⟨S161792x512, .i32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S316, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S316, .i32⟩
  | .hbm, ⟨11, _⟩ => ⟨S316, .i32⟩
  | .hbm, ⟨12, _⟩ => ⟨S_, .i32⟩
  | .hbm, ⟨13, _⟩ => ⟨S316, .i32⟩
  | .hbm, ⟨14, _⟩ => ⟨S316, .i1⟩
  | .hbm, ⟨15, _⟩ => ⟨S_, .i32⟩
  | .hbm, ⟨16, _⟩ => ⟨S316, .i32⟩
  | .hbm, ⟨17, _⟩ => ⟨S316, .i32⟩
  | .hbm, ⟨18, _⟩ => ⟨S316, .i32⟩
  | .hbm, ⟨19, _⟩ => ⟨S316x1, .i32⟩
  | .hbm, ⟨20, _⟩ => ⟨S32x1x2048, .f32⟩
  | .hbm, ⟨21, _⟩ => ⟨S32x1x1024, .f32⟩
  | .hbm, ⟨22, _⟩ => ⟨S161792x1024, .bf16⟩
  | .local _ .vmem, ⟨0, _⟩ => ⟨S512x512, .i32⟩
  | .local _ .vmem, ⟨1, _⟩ => ⟨S512x512, .i32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S316, .i32⟩
  | .local _ .smem, ⟨1, _⟩ => ⟨S1, .i32⟩
  | _, _ => ⟨S316, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v11 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![316], ![false]⟩

abbrev pre0 : Pipeline.Prefetch sig := ⟨2, ![main_v11.idx, main_arg1.idx], fun | 0 => main_v11.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_off3 (i : grid0.Coords) : Fin 1 → Nat :=
  let arg0 : BitVec 32 := BitVec.ofNat 32 (i 0).val
  let c1_i32 : BitVec 32 := 1#32
  let v11 : BitVec 32 := Scalar.subi arg0 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S316.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S316) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S316.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S316) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S316.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S316) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S316.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S316) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S316 : Shape := ⟨1, ![316]⟩
abbrev S1 : Shape := ⟨1, ![1]⟩
abbrev S161792x512 : Shape := ⟨2, ![161792, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S161792x1024 : Shape := ⟨2, ![161792, 1024]⟩
abbrev S316x512x1024 : Shape := ⟨3, ![316, 512, 1024]⟩
abbrev S316x1 : Shape := ⟨2, ![316, 1]⟩
abbrev S316x1024x2048 : Shape := ⟨3, ![316, 1024, 2048]⟩
abbrev S316x512x2048 : Shape := ⟨3, ![316, 512, 2048]⟩
abbrev S316x2048 : Shape := ⟨2, ![316, 2048]⟩
abbrev S316x1x2048 : Shape := ⟨3, ![316, 1, 2048]⟩
abbrev S316x1024x1024 : Shape := ⟨3, ![316, 1024, 1024]⟩
abbrev S316x1024 : Shape := ⟨2, ![316, 1024]⟩
abbrev S316x1x1024 : Shape := ⟨3, ![316, 1, 1024]⟩
abbrev S316x1x1 : Shape := ⟨3, ![316, 1, 1]⟩

abbrev nBuf : Space → Nat
  | .hbm => 104
  | .vmem => 0
  | .smem => 0
  | _ => 0

abbrev bufTy : (tb : Table) → Fin (tcTables nBuf tb) → BufTy
  | .hbm, ⟨0, _⟩ => ⟨S316, .i32⟩
  | .hbm, ⟨1, _⟩ => ⟨S1, .i32⟩
  | .hbm, ⟨2, _⟩ => ⟨S161792x512, .i32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S_, .i32⟩
  | .hbm, ⟨8, _⟩ => ⟨S161792x512, .i32⟩
  | .hbm, ⟨9, _⟩ => ⟨S161792x512, .i32⟩
  | .hbm, ⟨10, _⟩ => ⟨S_, .i32⟩
  | .hbm, ⟨11, _⟩ => ⟨S161792x512, .i32⟩
  | .hbm, ⟨12, _⟩ => ⟨S161792x512, .i32⟩
  | .hbm, ⟨13, _⟩ => ⟨S161792x1024, .i32⟩
  | .hbm, ⟨14, _⟩ => ⟨S_, .i32⟩
  | .hbm, ⟨15, _⟩ => ⟨S161792x1024, .i32⟩
  | .hbm, ⟨16, _⟩ => ⟨S161792x1024, .i32⟩
  | .hbm, ⟨17, _⟩ => ⟨S161792x1024, .f32⟩
  | .hbm, ⟨18, _⟩ => ⟨S316x512x1024, .f32⟩
  | .hbm, ⟨19, _⟩ => ⟨S_, .i32⟩
  | .hbm, ⟨20, _⟩ => ⟨S316, .i32⟩
  | .hbm, ⟨21, _⟩ => ⟨S316, .i1⟩
  | .hbm, ⟨22, _⟩ => ⟨S_, .i32⟩
  | .hbm, ⟨23, _⟩ => ⟨S316, .i32⟩
  | .hbm, ⟨24, _⟩ => ⟨S316, .i32⟩
  | .hbm, ⟨25, _⟩ => ⟨S316, .i32⟩
  | .hbm, ⟨26, _⟩ => ⟨S316x1, .i32⟩
  | .hbm, ⟨27, _⟩ => ⟨S316x1024x2048, .f32⟩
  | .hbm, ⟨28, _⟩ => ⟨S316x512x2048, .f32⟩
  | .hbm, ⟨29, _⟩ => ⟨S_, .i32⟩
  | .hbm, ⟨30, _⟩ => ⟨S316, .i32⟩
  | .hbm, ⟨31, _⟩ => ⟨S316, .i1⟩
  | .hbm, ⟨32, _⟩ => ⟨S_, .i32⟩
  | .hbm, ⟨33, _⟩ => ⟨S316, .i32⟩
  | .hbm, ⟨34, _⟩ => ⟨S316, .i32⟩
  | .hbm, ⟨35, _⟩ => ⟨S316, .i32⟩
  | .hbm, ⟨36, _⟩ => ⟨S316x1, .i32⟩
  | .hbm, ⟨37, _⟩ => ⟨S316x2048, .f32⟩
  | .hbm, ⟨38, _⟩ => ⟨S316x1x2048, .f32⟩
  | .hbm, ⟨39, _⟩ => ⟨S316x512x2048, .f32⟩
  | .hbm, ⟨40, _⟩ => ⟨S316x512x2048, .f32⟩
  | .hbm, ⟨41, _⟩ => ⟨S316x512x1024, .f32⟩
  | .hbm, ⟨42, _⟩ => ⟨S_, .f32⟩
  | .hbm, ⟨43, _⟩ => ⟨S316x512x1024, .f32⟩
  | .hbm, ⟨44, _⟩ => ⟨S316x512x1024, .f32⟩
  | .hbm, ⟨45, _⟩ => ⟨S316x512x1024, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S316x512x1024, .f32⟩
  | .hbm, ⟨50, _⟩ => ⟨S316x512x1024, .f32⟩
  | .hbm, ⟨51, _⟩ => ⟨S_, .f32⟩
  | .hbm, ⟨52, _⟩ => ⟨S316x512x1024, .f32⟩
  | .hbm, ⟨53, _⟩ => ⟨S316x512x1024, .f32⟩
  | .hbm, ⟨54, _⟩ => ⟨S_, .f32⟩
  | .hbm, ⟨55, _⟩ => ⟨S316x512x1024, .f32⟩
  | .hbm, ⟨56, _⟩ => ⟨S316x512x1024, .f32⟩
  | .hbm, ⟨57, _⟩ => ⟨S316x512x1024, .f32⟩
  | .hbm, ⟨58, _⟩ => ⟨S316x512x1024, .f32⟩
  | .hbm, ⟨59, _⟩ => ⟨S_, .f32⟩
  | .hbm, ⟨60, _⟩ => ⟨S316x512x1024, .f32⟩
  | .hbm, ⟨61, _⟩ => ⟨S316x512x1024, .f32⟩
  | .hbm, ⟨62, _⟩ => ⟨S_, .f32⟩
  | .hbm, ⟨63, _⟩ => ⟨S316x512x1024, .f32⟩
  | .hbm, ⟨64, _⟩ => ⟨S316x512x1024, .f32⟩
  | .hbm, ⟨65, _⟩ => ⟨S316x512x1024, .f32⟩
  | .hbm, ⟨66, _⟩ => ⟨S_, .f32⟩
  | .hbm, ⟨67, _⟩ => ⟨S316x512x1024, .f32⟩
  | .hbm, ⟨68, _⟩ => ⟨S316x512x1024, .f32⟩
  | .hbm, ⟨69, _⟩ => ⟨S316x512x1024, .f32⟩
  | .hbm, ⟨70, _⟩ => ⟨S_, .i32⟩
  | .hbm, ⟨71, _⟩ => ⟨S316, .i32⟩
  | .hbm, ⟨72, _⟩ => ⟨S316, .i1⟩
  | .hbm, ⟨73, _⟩ => ⟨S_, .i32⟩
  | .hbm, ⟨74, _⟩ => ⟨S316, .i32⟩
  | .hbm, ⟨75, _⟩ => ⟨S316, .i32⟩
  | .hbm, ⟨76, _⟩ => ⟨S316, .i32⟩
  | .hbm, ⟨77, _⟩ => ⟨S316x1, .i32⟩
  | .hbm, ⟨78, _⟩ => ⟨S316x1024x1024, .f32⟩
  | .hbm, ⟨79, _⟩ => ⟨S316x512x1024, .f32⟩
  | .hbm, ⟨80, _⟩ => ⟨S_, .i32⟩
  | .hbm, ⟨81, _⟩ => ⟨S316, .i32⟩
  | .hbm, ⟨82, _⟩ => ⟨S316, .i1⟩
  | .hbm, ⟨83, _⟩ => ⟨S_, .i32⟩
  | .hbm, ⟨84, _⟩ => ⟨S316, .i32⟩
  | .hbm, ⟨85, _⟩ => ⟨S316, .i32⟩
  | .hbm, ⟨86, _⟩ => ⟨S316, .i32⟩
  | .hbm, ⟨87, _⟩ => ⟨S316x1, .i32⟩
  | .hbm, ⟨88, _⟩ => ⟨S316x1024, .f32⟩
  | .hbm, ⟨89, _⟩ => ⟨S316x1x1024, .f32⟩
  | .hbm, ⟨90, _⟩ => ⟨S316x512x1024, .f32⟩
  | .hbm, ⟨91, _⟩ => ⟨S316x512x1024, .f32⟩
  | .hbm, ⟨92, _⟩ => ⟨S316, .i32⟩
  | .hbm, ⟨93, _⟩ => ⟨S_, .i32⟩
  | .hbm, ⟨94, _⟩ => ⟨S316, .i32⟩
  | .hbm, ⟨95, _⟩ => ⟨S316, .i1⟩
  | .hbm, ⟨96, _⟩ => ⟨S316x1x1, .i1⟩
  | .hbm, ⟨97, _⟩ => ⟨S_, .f32⟩
  | .hbm, ⟨98, _⟩ => ⟨S_, .f32⟩
  | .hbm, ⟨99, _⟩ => ⟨S316x512x1024, .i1⟩
  | .hbm, ⟨100, _⟩ => ⟨S316x512x1024, .f32⟩
  | .hbm, ⟨101, _⟩ => ⟨S316x512x1024, .f32⟩
  | .hbm, ⟨102, _⟩ => ⟨S161792x1024, .f32⟩
  | .hbm, ⟨103, _⟩ => ⟨S161792x1024, .bf16⟩
  | _, _ => ⟨S316, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_cst_7 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_9 : Ref sig .tc := ⟨.hbm, 59, rfl⟩
abbrev main_v36 : Ref sig .tc := ⟨.hbm, 60, rfl⟩
abbrev main_v37 : Ref sig .tc := ⟨.hbm, 61, rfl⟩
abbrev main_cst_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_11 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_12 : Ref sig .tc := ⟨.hbm, 70, rfl⟩
abbrev main_v44 : Ref sig .tc := ⟨.hbm, 71, rfl⟩
abbrev main_v45 : Ref sig .tc := ⟨.hbm, 72, rfl⟩
abbrev main_c_13 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_14 : Ref sig .tc := ⟨.hbm, 80, rfl⟩
abbrev main_v52 : Ref sig .tc := ⟨.hbm, 81, rfl⟩
abbrev main_v53 : Ref sig .tc := ⟨.hbm, 82, rfl⟩
abbrev main_c_15 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_16 : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩

abbrev nD : Nat := 1
abbrev τ : Topo := Topo.v7x

variable {F : FTy → Type} [FloatOps F]
-- ==== Proof.Experts.lean ====
/- The experts' kernel: its body's run at one grid point, in the three cases its tables tell apart. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Pipeline.TableIdle
public import Idealize.ShloMosaic.Lib.Tactic
public import Idealize.ShloMosaic.Lib.UnfoldOut
public import Idealize.ShloMosaic.Lib.VecWindow
public import Idealize.ShloMosaic.Lib.WordCmp

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The number of active blocks, as the body reads it from its table. -/
abbrev nOf (n : Vec F S1 .i32) : BitVec 32 :=
  n ((Rect.unit (s := S1) ![0] S1.size inb_S1_S1_0).emb (Shape.Idx.first (numel1_S1.symm ▸ Nat.one_pos)))

/-- The expert of the point's block, and of the block before it. -/
abbrev eOf (b : Vec F S316 .i32) (i : grid0.Coords) : BitVec 32 :=
  b ((Rect.unit (s := S316) (k0_off2 i) S1.size (k0_off2_inb i)).emb (Shape.Idx.first (numel1_S1.symm ▸ Nat.one_pos)))
abbrev pOf (b : Vec F S316 .i32) (i : grid0.Coords) : BitVec 32 :=
  b ((Rect.unit (s := S316) (k0_off3 i) S1.size (k0_off3_inb i)).emb (Shape.Idx.first (numel1_S1.symm ▸ Nat.one_pos)))

/-- Whether the body casts the point's weights anew: at the first point and where the expert changes. -/
abbrev new (b : Vec F S316 .i32) (i : grid0.Coords) : BitVec 1 :=
  Scalar.cmpi .ne (Scalar.extui (Scalar.ori (Scalar.cmpi .eq (BitVec.ofNat 32 (i 0).val) 0#32) (Scalar.cmpi .ne (eOf b i) (pOf b i))) : BitVec 32) 0#32

/-- What the body stores for an active block: the two products of the block `x`, unpacked, with the experts' weights `u` and `d`
    as the scratch buffers hold them, their biases `bu` and `bd`, the clipping and the gate between. -/
def outOf (x : Vec F S512x512 .i32) (u : Vec F S1024x2048 .bf16) (bu : Vec F S1x1x2048 .f32) (d : Vec F S1024x1024 .bf16) (bd : Vec F S1x1x1024 .f32) : FVec F S512x1024 .bf16 :=
  have ul : Vec F S1024x1024 .bf16 := fun y => u ((Rect.unit (s := S1024x2048) ![0, 0] S1024x1024.size inb_S1024x2048_S1024x1024_0_0).emb y)
  have ur : Vec F S1024x1024 .bf16 := fun y => u ((Rect.unit (s := S1024x2048) ![0, 1024] S1024x1024.size inb_S1024x2048_S1024x1024_0_1024).emb y)
  have bl : Vec F S1x1x1024 .f32 := fun y => bu ((Rect.unit (s := S1x1x2048) ![0, 0, 0] S1x1x1024.size inb_S1x1x2048_S1x1x1024_0_0_0).emb y)
  have br : Vec F S1x1x1024 .f32 := fun y => bu ((Rect.unit (s := S1x1x2048) ![0, 0, 1024] S1x1x1024.size inb_S1x1x2048_S1x1x1024_0_0_1024).emb y)
  k0_pay1 (k0_pay6 x ul bl) (Scalar.ofBits .f32 0x40E00000#32) (k0_pay7 x ur br) d bd

/-- The stored block, from loads that are the operands' parts. -/
theorem outOf_of (x : Vec F S512x512 .i32) (u : Vec F S1024x2048 .bf16) (bu : Vec F S1x1x2048 .f32) (d : Vec F S1024x1024 .bf16) (bd : Vec F S1x1x1024 .f32)
    (x' : Vec F S512x512 .i32) (ul ur d' : Vec F S1024x1024 .bf16) (bl br bd' : Vec F S1x1x1024 .f32)
    (hx : x' = x) (hul : ul = fun y => u ((Rect.unit (s := S1024x2048) ![0, 0] S1024x1024.size inb_S1024x2048_S1024x1024_0_0).emb y))
    (hur : ur = fun y => u ((Rect.unit (s := S1024x2048) ![0, 1024] S1024x1024.size inb_S1024x2048_S1024x1024_0_1024).emb y))
    (hbl : bl = fun y => bu ((Rect.unit (s := S1x1x2048) ![0, 0, 0] S1x1x1024.size inb_S1x1x2048_S1x1x1024_0_0_0).emb y))
    (hbr : br = fun y => bu ((Rect.unit (s := S1x1x2048) ![0, 0, 1024] S1x1x1024.size inb_S1x1x2048_S1x1x1024_0_0_1024).emb y))
    (hd : d' = d) (hbd : bd' = bd) :
    k0_pay1 (k0_pay6 x' ul bl) (Scalar.ofBits .f32 0x40E00000#32) (k0_pay7 x' ur br) d' bd' = outOf x u bu d bd := by
  subst hx hul hur hbl hbr hd hbd
  rfl

/-- A load of a part of a buffer after a store of the whole of it reads that part of what was stored. -/
theorem readCov_part {κ : Kind} {sp : Space} {s : Shape} {e : EltTy} (v : View sig κ sp s e) {off : Fin s.rank → ℕ} (inb : ∀ a, off a + s.size a ≤ s.size a)
    (w : (Rect.unit off s.size inb).shape.Idx → Elt F e) (L : List (View.Piece (Elt F) s e)) (r : Rect s) :
    v.readCov (⟨Rect.unit off s.size inb, w⟩ :: L) r.toLoadRect = fun y => w (r.emb y) :=
  funext fun y => congrFun (View.read_writes_full v v.junk inb w L) (r.emb y)

/-- A point past the active blocks: the body stores zeros and touches no scratch buffer. -/
theorem body_idle (c : Dev nD) (E : Set ℕ) (i : grid0.Coords) (arg3 : Memref sig .tc .vmem S512x512 .i32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .bf16) (harg8 : arg8.IsWhole)
    (n : Vec F S1 .i32) (K : PUnit → sProp 𝕄)
    (h1 : ¬ k0_cond1 i (nOf n) = 1#1) (h3 : k0_cond3 i (nOf n) = 1#1) :
    iprop(owns (c : Thread nD τ) (Memref.whole main_arg1) fullShare n ∗ (∃ d, owns (c : Thread nD τ) arg8 fullShare d)
        ∗ (iprop(owns (c : Thread nD τ) (Memref.whole main_arg1) fullShare n ∗ owns (c : Thread nD τ) arg8 fullShare (k0_pay2 (F := F))) -∗ K ⟨⟩))
      ⊢ wp frame (wpE (defs₀ (F := F)) Variants.none c none) E (cc0_moe_ffn i (Memref.whole main_v11) (Memref.isWhole_whole _) (Memref.whole main_arg1) (Memref.isWhole_whole _) arg3 harg3 arg4 harg4 arg5 harg5 arg6 harg6 arg7 harg7 arg8 harg8 (Memref.whole cc0_scratch0) (Memref.isWhole_whole _) (Memref.whole cc0_scratch1) (Memref.isWhole_whole _)) K := by
  simp only [cc0_moe_ffn_eq_skeleton]; unfold cc0_moe_ffn_skel
  unfold owns
  iintro ⟨⟨%fn, %hfn, Hn⟩, ⟨%d, %f, -, H8⟩, Hk⟩
  subst hfn
  sl_exec (disch := first | with_unfolding_all exact h1 | with_unfolding_all exact h3 | with_unfolding_all exact hn)
  sl_step
  iapply Hk
  isplitl [Hn]
  · iexists fn; isplitr; · ipureintro; rfl
    iexact Hn
  iexists _; isplitr
  swap; · iexact H8
  ipureintro
  exact View.read_writes_full _ _ _ _ _

/-- A point whose block is active and whose expert is the block before's: the scratch buffers are read as they are. -/
theorem body_same (c : Dev nD) (E : Set ℕ) (i : grid0.Coords) (arg3 : Memref sig .tc .vmem S512x512 .i32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .bf16) (harg8 : arg8.IsWhole)
    (b : Vec F S316 .i32) (n : Vec F S1 .i32) (K : PUnit → sProp 𝕄)
    (x : Vec F S512x512 .i32) (bu : Vec F S1x1x2048 .f32) (bd : Vec F S1x1x1024 .f32) (u : Vec F S1024x2048 .bf16) (d : Vec F S1024x1024 .bf16)
    (h1 : k0_cond1 i (nOf n) = 1#1) (hn : ¬ new b i = 1#1) (h3 : ¬ k0_cond3 i (nOf n) = 1#1) :
    iprop(owns (c : Thread nD τ) (Memref.whole main_v11) fullShare b ∗ owns (c : Thread nD τ) (Memref.whole main_arg1) fullShare n
        ∗ owns (c : Thread nD τ) (Memref.whole cc0_scratch0) fullShare u ∗ owns (c : Thread nD τ) (Memref.whole cc0_scratch1) fullShare d
        ∗ owns (c : Thread nD τ) arg3 fullShare x ∗ owns (c : Thread nD τ) arg5 fullShare bu ∗ owns (c : Thread nD τ) arg7 fullShare bd ∗ (∃ d, owns (c : Thread nD τ) arg8 fullShare d)
        ∗ (iprop(owns (c : Thread nD τ) (Memref.whole main_v11) fullShare b ∗ owns (c : Thread nD τ) (Memref.whole main_arg1) fullShare n
        ∗ owns (c : Thread nD τ) (Memref.whole cc0_scratch0) fullShare u ∗ owns (c : Thread nD τ) (Memref.whole cc0_scratch1) fullShare d
        ∗ owns (c : Thread nD τ) arg3 fullShare x ∗ owns (c : Thread nD τ) arg5 fullShare bu ∗ owns (c : Thread nD τ) arg7 fullShare bd ∗ owns (c : Thread nD τ) arg8 fullShare (outOf x u bu d bd)) -∗ K ⟨⟩))
      ⊢ wp frame (wpE (defs₀ (F := F)) Variants.none c none) E (cc0_moe_ffn i (Memref.whole main_v11) (Memref.isWhole_whole _) (Memref.whole main_arg1) (Memref.isWhole_whole _) arg3 harg3 arg4 harg4 arg5 harg5 arg6 harg6 arg7 harg7 arg8 harg8 (Memref.whole cc0_scratch0) (Memref.isWhole_whole _) (Memref.whole cc0_scratch1) (Memref.isWhole_whole _)) K := by
  simp only [cc0_moe_ffn_eq_skeleton]; unfold cc0_moe_ffn_skel
  simp only [k0_part1_eq_skeleton]
  unfold owns
  iintro ⟨⟨%fb, %hfb, Hb⟩, ⟨%fn, %hfn, Hn⟩, ⟨%fu, %hfu, Hu⟩, ⟨%fd, %hfd, Hd⟩, ⟨%f3, %hf3, H3⟩, ⟨%f5, %hf5, H5⟩, ⟨%f7, %hf7, H7⟩, ⟨%d8, %f8, -, H8⟩, Hk⟩
  subst hfb hfn hfu hfd hf3 hf5 hf7
  sl_exec (disch := first | with_unfolding_all exact h1 | with_unfolding_all exact h3 | with_unfolding_all exact hn)
  sl_step
  iapply Hk
  isplitl [Hb]
  · iexists fb; isplitr; · ipureintro; rfl
    iexact Hb
  isplitl [Hn]
  · iexists fn; isplitr; · ipureintro; rfl
    iexact Hn
  isplitl [Hu]
  · iexists fu; isplitr; · ipureintro; rfl
    iexact Hu
  isplitl [Hd]
  · iexists fd; isplitr; · ipureintro; rfl
    iexact Hd
  isplitl [H3]
  · iexists f3; isplitr; · ipureintro; rfl
    iexact H3
  isplitl [H5]
  · iexists f5; isplitr; · ipureintro; rfl
    iexact H5
  isplitl [H7]
  · iexists f7; isplitr; · ipureintro; rfl
    iexact H7
  iexists _; isplitr
  swap; · iexact H8
  ipureintro
  refine (View.read_writes_full _ _ _ _ _).trans ?_
  exact outOf_of _ _ _ _ _ _ _ _ _ _ _ _ (View.readAt_full _ _ _) rfl rfl rfl rfl (View.readAt_full _ _ _) (View.readAt_full _ _ _)

/-- A point whose block is active and whose expert is new: the body casts the expert's weights into the scratch buffers first. -/
theorem body_new (c : Dev nD) (E : Set ℕ) (i : grid0.Coords) (arg3 : Memref sig .tc .vmem S512x512 .i32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .bf16) (harg8 : arg8.IsWhole)
    (b : Vec F S316 .i32) (n : Vec F S1 .i32) (K : PUnit → sProp 𝕄)
    (x : Vec F S512x512 .i32) (wu : Vec F S1x1024x2048 .f32) (wd : Vec F S1x1024x1024 .f32) (bu : Vec F S1x1x2048 .f32) (bd : Vec F S1x1x1024 .f32)
    (h1 : k0_cond1 i (nOf n) = 1#1) (hn : new b i = 1#1) (h3 : ¬ k0_cond3 i (nOf n) = 1#1) :
    iprop(owns (c : Thread nD τ) (Memref.whole main_v11) fullShare b ∗ owns (c : Thread nD τ) (Memref.whole main_arg1) fullShare n
        ∗ (∃ u, owns (c : Thread nD τ) (Memref.whole cc0_scratch0) fullShare u) ∗ (∃ d, owns (c : Thread nD τ) (Memref.whole cc0_scratch1) fullShare d)
        ∗ owns (c : Thread nD τ) arg3 fullShare x ∗ owns (c : Thread nD τ) arg4 fullShare wu ∗ owns (c : Thread nD τ) arg5 fullShare bu ∗ owns (c : Thread nD τ) arg6 fullShare wd ∗ owns (c : Thread nD τ) arg7 fullShare bd ∗ (∃ d, owns (c : Thread nD τ) arg8 fullShare d)
        ∗ (iprop(owns (c : Thread nD τ) (Memref.whole main_v11) fullShare b ∗ owns (c : Thread nD τ) (Memref.whole main_arg1) fullShare n
        ∗ owns (c : Thread nD τ) (Memref.whole cc0_scratch0) fullShare (k0_pay3 wu) ∗ owns (c : Thread nD τ) (Memref.whole cc0_scratch1) fullShare (k0_pay4 wd)
        ∗ owns (c : Thread nD τ) arg3 fullShare x ∗ owns (c : Thread nD τ) arg4 fullShare wu ∗ owns (c : Thread nD τ) arg5 fullShare bu ∗ owns (c : Thread nD τ) arg6 fullShare wd ∗ owns (c : Thread nD τ) arg7 fullShare bd ∗ owns (c : Thread nD τ) arg8 fullShare (outOf x (k0_pay3 wu) bu (k0_pay4 wd) bd)) -∗ K ⟨⟩))
      ⊢ wp frame (wpE (defs₀ (F := F)) Variants.none c none) E (cc0_moe_ffn i (Memref.whole main_v11) (Memref.isWhole_whole _) (Memref.whole main_arg1) (Memref.isWhole_whole _) arg3 harg3 arg4 harg4 arg5 harg5 arg6 harg6 arg7 harg7 arg8 harg8 (Memref.whole cc0_scratch0) (Memref.isWhole_whole _) (Memref.whole cc0_scratch1) (Memref.isWhole_whole _)) K := by
  simp only [cc0_moe_ffn_eq_skeleton]; unfold cc0_moe_ffn_skel
  simp only [k0_part1_eq_skeleton]
  unfold owns
  iintro ⟨⟨%fb, %hfb, Hb⟩, ⟨%fn, %hfn, Hn⟩, ⟨%u, %fu, -, Hu⟩, ⟨%d, %fd, -, Hd⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hfb hfn hf3 hf4 hf5 hf6 hf7
  sl_exec (disch := first | with_unfolding_all exact h1 | with_unfolding_all exact h3 | with_unfolding_all exact hn)
  sl_step
  iapply Hk
  isplitl [Hb]
  · iexists fb; isplitr; · ipureintro; rfl
    iexact Hb
  isplitl [Hn]
  · iexists fn; isplitr; · ipureintro; rfl
    iexact Hn
  isplitl [Hu]
  · iexists _; isplitr
    swap; · iexact Hu
    ipureintro
    refine (View.read_writes_full _ _ _ _ _).trans ?_
    rw [View.readAt_full]
  isplitl [Hd]
  · iexists _; isplitr
    swap; · iexact Hd
    ipureintro
    refine (View.read_writes_full _ _ _ _ _).trans ?_
    rw [View.readAt_full]
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  refine (View.read_writes_full _ _ _ _ _).trans ?_
  unfold body_new.sl.r_3 body_new.sl.r_4 body_new.sl.cst_19
  refine outOf_of _ _ _ _ _ _ _ _ _ _ _ _ ?_ ?_ ?_ ?_ ?_ ?_ ?_
  · exact View.readAt_full _ _ _
  · unfold body_new.sl.v28 body_new.sl.Hu_1
    exact (readCov_part _ _ _ _ _).trans (funext fun y => congrFun (congrArg k0_pay3 (View.readAt_full _ _ _)) _)
  · unfold body_new.sl.v34 body_new.sl.Hu_1
    exact (readCov_part _ _ _ _ _).trans (funext fun y => congrFun (congrArg k0_pay3 (View.readAt_full _ _ _)) _)
  · rfl
  · rfl
  · unfold body_new.sl.v60 body_new.sl.Hd_1
    exact (View.readCov_full _ _ _ _ _).trans (congrArg k0_pay4 (View.readAt_full _ _ _))
  · exact View.readAt_full _ _ _

end Cert.Kernel3Ideal.Experts

end
-- ==== Proof.ExpertsBody.lean ====
/- The experts' kernel: what each grid point leaves, and the body's obligation at every point. -/
module

public import proofs.«01_k».proof.Proof.Experts
public import Idealize.ShloMosaic.Lib.Pipeline.ValueKit
public import Idealize.ShloMosaic.Lib.Pointwise

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ)

/-- Core `c`'s buffers when the region is entered: the host operations have run. -/
abbrev V (c : Dev nD) (b : Ref sig .tc) : Buf (Elt F) ((c : Thread nD τ).loc b) := StableHlo.after hostOps0 (fun b => m (c, b)) b

/-- The two tables the region reads. -/
def tbl : pre0.Contents (Elt F) := fun k => V m 0 (pre0.ref k)

variable (hok : ok0 (tbl m))

/-- The tables as contents the region admits. -/
abbrev adm : (p : Fin 1) → (pcfgs (F := F) p).Adm := fun _ => ⟨tbl m, hok⟩
/-- The pipeline at them. -/
abbrev cfgT : Cfg sig Λ₀ := cfg0 (F := F) ⟨tbl m, hok⟩

/-- The two tables as the body sees them. -/
def bTbl : Vec F S316 .i32 := tbl m 0
def nTbl : Vec F S1 .i32 := tbl m 1

/-- Window `w`'s block at point `t`. -/
def iblk (c : Dev nD) (w : Fin (cfgT m hok).W) (t : Fin (cfgT m hok).N) : (((cfgT m hok).win w).xblock ((cfgT m hok).grid.coords t)).Idx → Elt F ((cfgT m hok).win w).elt :=
  (((cfgT m hok).win w).blk t).view.read (Elt F) (V m c (Pipeline.arrRef spec0 w))

def xAt (c : Dev nD) (t : Fin grid0.N) : Vec F S512x512 .i32 := iblk m hok c 0 t
def wuAt (c : Dev nD) (t : Fin grid0.N) : Vec F S1x1024x2048 .f32 := iblk m hok c 1 t
def buAt (c : Dev nD) (t : Fin grid0.N) : Vec F S1x1x2048 .f32 := iblk m hok c 2 t
def wdAt (c : Dev nD) (t : Fin grid0.N) : Vec F S1x1024x1024 .f32 := iblk m hok c 3 t
def bdAt (c : Dev nD) (t : Fin grid0.N) : Vec F S1x1x1024 .f32 := iblk m hok c 4 t

/-- Whether point `t`'s block is active. -/
abbrev act (t : Fin grid0.N) : Prop := k0_cond1 (grid0.coords t) (nOf (nTbl m)) = 1#1

/-- What the body leaves in the output's buffer at point `t`. -/
def leaves (c : Dev nD) (t : Fin grid0.N) : Vec F S512x1024 .bf16 :=
  if act m t then outOf (xAt m hok c t) (k0_pay3 (wuAt m hok c t)) (buAt m hok c t) (k0_pay4 (wdAt m hok c t)) (bdAt m hok c t) else k0_pay2

/-- What is held between the points: the tables, and the scratch buffers, which after an active point hold its expert's
    weights. -/
def inv (c : Dev nD) (t : Fin (grid0.N + 1)) : sProp 𝕄 :=
  iprop(∃ (u : Vec F S1024x2048 .bf16) (d : Vec F S1024x1024 .bf16),
    ⌜∀ s : Fin grid0.N, s.val + 1 = t.val → act m s → u = k0_pay3 (wuAt m hok c s) ∧ d = k0_pay4 (wdAt m hok c s)⌝
    ∗ owns (c : Thread nD τ) (Memref.whole main_v11) fullShare (bTbl m) ∗ owns (c : Thread nD τ) (Memref.whole main_arg1) fullShare (nTbl m)
    ∗ owns (c : Thread nD τ) (Memref.whole cc0_scratch0) fullShare u ∗ owns (c : Thread nD τ) (Memref.whole cc0_scratch1) fullShare d)

/-- The pipeline's proof data on core `c`. -/
def dats (p : Fin 1) (c : Dev nD) : Dat τ (Elt F) Unit ℕ (UR sig nD τ) ℕ (Pipeline.pin pcfgs (adm m hok) p) c where
  A w := V m c (Pipeline.arrRef spec0 w)
  after w t := match w with
    | ⟨0, _⟩ => iblk m hok c 0 t
    | ⟨1, _⟩ => iblk m hok c 1 t
    | ⟨2, _⟩ => iblk m hok c 2 t
    | ⟨3, _⟩ => iblk m hok c 3 t
    | ⟨4, _⟩ => iblk m hok c 4 t
    | ⟨5, _⟩ => leaves m hok c t
  Φ t := inv m hok c t
  q _ := fullShare
  owed _ := 0

theorem A_eq (c : Dev nD) (w : Fin (cfgT m hok).W) : (dats m hok 0 c).A w = V m c (Pipeline.arrRef spec0 w) := by
  dsimp only [dats]

theorem after_0 (c : Dev nD) (t : Fin (cfgT m hok).N) : (dats m hok 0 c).after 0 t = iblk m hok c 0 t := by dsimp only [dats]; rfl
theorem after_1 (c : Dev nD) (t : Fin (cfgT m hok).N) : (dats m hok 0 c).after 1 t = iblk m hok c 1 t := by dsimp only [dats]; rfl
theorem after_2 (c : Dev nD) (t : Fin (cfgT m hok).N) : (dats m hok 0 c).after 2 t = iblk m hok c 2 t := by dsimp only [dats]; rfl
theorem after_3 (c : Dev nD) (t : Fin (cfgT m hok).N) : (dats m hok 0 c).after 3 t = iblk m hok c 3 t := by dsimp only [dats]; rfl
theorem after_4 (c : Dev nD) (t : Fin (cfgT m hok).N) : (dats m hok 0 c).after 4 t = iblk m hok c 4 t := by dsimp only [dats]; rfl
theorem after_5 (c : Dev nD) (t : Fin (cfgT m hok).N) : (dats m hok 0 c).after 5 t = leaves m hok c t := by dsimp only [dats]; rfl

/-- Each input's staging buffer holds its block when the body runs, fetched at that point or before. -/
theorem before_0 (c : Dev nD) (t : Fin (cfgT m hok).N) (d) : (dats m hok 0 c).before 0 t d = iblk m hok c 0 t :=
  ((dats m hok 0 c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin (cfgT m hok).N) (d) : (dats m hok 0 c).before 1 t d = iblk m hok c 1 t :=
  ((dats m hok 0 c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin (cfgT m hok).N) (d) : (dats m hok 0 c).before 2 t d = iblk m hok c 2 t :=
  ((dats m hok 0 c).before_in_eq_fetched 2 rfl (fun _ => rfl) (fun _ _ _ => rfl) (fun t => by rw [after_2]; unfold Dat.blockOf iblk; rw [A_eq]) t d).trans
    (by unfold Dat.fetched Dat.blockOf iblk; rw [A_eq]; rfl)
theorem before_3 (c : Dev nD) (t : Fin (cfgT m hok).N) (d) : (dats m hok 0 c).before 3 t d = iblk m hok c 3 t :=
  ((dats m hok 0 c).before_in_eq_fetched 3 rfl (fun _ => rfl) (fun _ _ _ => rfl) (fun t => by rw [after_3]; unfold Dat.blockOf iblk; rw [A_eq]) t d).trans
    (by unfold Dat.fetched Dat.blockOf iblk; rw [A_eq]; rfl)
theorem before_4 (c : Dev nD) (t : Fin (cfgT m hok).N) (d) : (dats m hok 0 c).before 4 t d = iblk m hok c 4 t :=
  ((dats m hok 0 c).before_in_eq_fetched 4 rfl (fun _ => rfl) (fun _ _ _ => rfl) (fun t => by rw [after_4]; unfold Dat.blockOf iblk; rw [A_eq]) t d).trans
    (by unfold Dat.fetched Dat.blockOf iblk; rw [A_eq]; rfl)

/-- The grid's only coordinate at a point is its number. -/
theorem coords_val (t : Fin grid0.N) : (grid0.coords t 0).val = t.val := by
  revert t; decide +kernel

/-- The two conditions exclude each other and leave no third case. -/
theorem cond3_iff (i : grid0.Coords) (v : BitVec 32) : k0_cond3 i v = 1#1 ↔ ¬ k0_cond1 i v = 1#1 := by
  have one (b : Bool) : Scalar.cmpi .ne (Scalar.extui (BitVec.ofBool b) : BitVec 32) 0#32 = 1#1 ↔ b = true := by cases b <;> decide
  have h3 : k0_cond3 i v = 1#1 ↔ v.toInt ≤ (BitVec.ofNat 32 (i 0).val).toInt := (one _).trans decide_eq_true_iff
  have h1 : k0_cond1 i v = 1#1 ↔ (BitVec.ofNat 32 (i 0).val).toInt < v.toInt := (one _).trans decide_eq_true_iff
  rw [h3, h1, not_lt]

/-- A point is active when its number is below the table's. -/
theorem act_iff (t : Fin grid0.N) : act m t ↔ (t.val : ℤ) < (nOf (nTbl m)).toInt := by
  have ht : t.val < 316 := t.isLt
  have one (b : Bool) : Scalar.cmpi .ne (Scalar.extui (BitVec.ofBool b) : BitVec 32) 0#32 = 1#1 ↔ b = true := by cases b <;> decide
  have h1 : act m t ↔ (BitVec.ofNat 32 (grid0.coords t 0).val).toInt < (nOf (nTbl m)).toInt := (one _).trans decide_eq_true_iff
  rw [h1, show (grid0.coords t 0).val = t.val from coords_val t, BitVec.toInt_ofNat', Int.bmod_eq_of_le (by omega) (by omega)]

/-- No point leaves the output alone. -/
theorem idle_5 (i : grid0.Coords) : idle0 (tbl m) 5 i = false := by
  have h (v : BitVec 32) : (!(k0_cond1 i v == 1#1) && !(k0_cond3 i v == 1#1)) = false := by
    by_cases h1 : k0_cond1 i v = 1#1
    · simp [h1]
    · simp [(cond3_iff _ _).mpr h1]
  exact h ((tbl m).atD 1 ![0])

/-- The offsets at which a point reads its table. -/
theorem offs : ∀ t : Fin grid0.N, k0_off1 (grid0.coords t) = ![t.val] ∧ k0_off2 (grid0.coords t) = ![t.val] ∧ k0_off3 (grid0.coords t) = ![t.val - 1] := by
  decide +kernel

/-- The expert of block `t`. -/
def expert (t : Fin 316) : BitVec 32 := bTbl m (ix1 t)

theorem tbl_at (t : Fin grid0.N) (off : Fin 1 → ℕ) (inb : ∀ a, off a + S1.size a ≤ S316.size a) (s : Fin 316) (h : off = ![s.val]) :
    bTbl m ((Rect.unit (s := S316) off S1.size inb).emb (Shape.Idx.first (numel1_S1.symm ▸ Nat.one_pos))) = expert m s := by
  subst h
  refine congrArg (bTbl m) (funext fun a => Fin.ext ?_)
  fin_cases a
  simp [ix1, Shape.Idx.first]

theorem eOf_eq (t : Fin grid0.N) : eOf (bTbl m) (grid0.coords t) = expert m t := tbl_at m t _ _ t (offs t).2.1
theorem pOf_eq (t : Fin grid0.N) (s : Fin grid0.N) (h : s.val = t.val - 1) : pOf (bTbl m) (grid0.coords t) = expert m s :=
  tbl_at m t _ _ s (by rw [(offs t).2.2, h])

/-- Where the weights are not cast anew, a point before has the same expert. -/
theorem not_new (t : Fin grid0.N) (h : ¬ new (bTbl m) (grid0.coords t) = 1#1) : ∃ s : Fin grid0.N, s.val + 1 = t.val ∧ expert m s = expert m t := by
  have one (b : BitVec 1) : ¬ Scalar.cmpi .ne (Scalar.extui b : BitVec 32) 0#32 = 1#1 ↔ b = 0#1 := by revert b; decide
  have two (a b : Bool) : Scalar.ori (BitVec.ofBool a) (BitVec.ofBool b) = 0#1 ↔ a = false ∧ b = false := by revert a b; decide
  have h' := (two (BitVec.ofNat 32 (grid0.coords t 0).val == 0#32) (eOf (bTbl m) (grid0.coords t) != pOf (bTbl m) (grid0.coords t))).mp
    ((one _).mp h)
  have h0 : t.val ≠ 0 := fun h0 => by
    have := h'.1; rw [show (grid0.coords t 0).val = t.val from coords_val t, h0] at this; simp at this
  refine ⟨⟨t.val - 1, by have := t.isLt; omega⟩, by dsimp only; omega, ?_⟩
  have := h'.2
  rw [eOf_eq, pOf_eq m t ⟨t.val - 1, by have := t.isLt; omega⟩ rfl] at this
  rw [bne_eq_false_iff_eq] at this
  exact this.symm

/-- The places of the weights' and biases' blocks: the point's expert's. -/
theorem places (t : Fin grid0.N) : ((cfgT m hok).win 1).index t = ![(expert m t).toNat, 0, 0] ∧ ((cfgT m hok).win 2).index t = ![(expert m t).toNat, 0, 0]
    ∧ ((cfgT m hok).win 3).index t = ![(expert m t).toNat, 0, 0] ∧ ((cfgT m hok).win 4).index t = ![(expert m t).toNat, 0, 0] := by
  have e := tbl_at m t _ (k0_off1_inb (grid0.coords t)) t (offs t).1
  have h : (![BitVec.toNat (bTbl m ((Rect.unit (s := S316) (k0_off1 (grid0.coords t)) S1.size (k0_off1_inb (grid0.coords t))).emb (Shape.Idx.first (numel1_S1.symm ▸ Nat.one_pos)))), 0, 0] : Fin 3 → ℕ) = ![(expert m t).toNat, 0, 0] := by rw [e]
  exact ⟨h, h, h, h⟩

include hok in
theorem expert_lt (t : Fin grid0.N) : (expert m t).toNat < 32 := by
  obtain ⟨h, -⟩ := hok.2.1 (grid0.coords t)
  have h0 := h 0
  have e : cc0_transform_1 k0_off1_inb numel1_S1 (tbl m) (grid0.coords t) = ![(expert m t).toNat, 0, 0] := (places m hok t).1
  rw [e] at h0
  have : ((expert m t).toNat + 1) * 1 ≤ 32 := h0
  omega

/-- The expert of block `t` as an index of the experts' arrays. -/
def ex (t : Fin grid0.N) : Fin 32 := ⟨(expert m t).toNat, expert_lt m hok t⟩

theorem wu_at (c : Dev nD) (t : Fin grid0.N) (k : Fin 1024) (j : Fin 2048) :
    wuAt m hok c t (ix3 0 k j) = V m c main_arg3 (ix3 (ex m hok t) k j) := by
  have e := (places m hok t).1
  blk_simp [wuAt, iblk]
  blk_ext [e, ex]
theorem bu_at (c : Dev nD) (t : Fin grid0.N) (j : Fin 2048) :
    buAt m hok c t (ix3 0 0 j) = V m c main_v12 (ix3 (ex m hok t) 0 j) := by
  have e := (places m hok t).2.1
  blk_simp [buAt, iblk]
  blk_ext [e, ex]
theorem wd_at (c : Dev nD) (t : Fin grid0.N) (k j : Fin 1024) :
    wdAt m hok c t (ix3 0 k j) = V m c main_arg5 (ix3 (ex m hok t) k j) := by
  have e := (places m hok t).2.2.1
  blk_simp [wdAt, iblk]
  blk_ext [e, ex]
theorem bd_at (c : Dev nD) (t : Fin grid0.N) (j : Fin 1024) :
    bdAt m hok c t (ix3 0 0 j) = V m c main_v13 (ix3 (ex m hok t) 0 j) := by
  have e := (places m hok t).2.2.2
  blk_simp [bdAt, iblk]
  blk_ext [e, ex]

/-- Two points with the same expert fetch the same weights. -/
theorem same_w (c : Dev nD) (s t : Fin grid0.N) (h : expert m s = expert m t) : wuAt m hok c s = wuAt m hok c t ∧ wdAt m hok c s = wdAt m hok c t := by
  have e : ex m hok s = ex m hok t := Fin.ext (by unfold ex; dsimp only; rw [h])
  constructor
  · funext y
    rw [eq_ix3 (n0 := 1) (n1 := 1024) (n2 := 2048) y, Subsingleton.elim (α := Fin 1) (y 0) 0]
    exact (wu_at m hok c s _ _).trans (((congrArg (fun e => V m c main_arg3 (ix3 e (y 1) (y 2))) e)).trans (wu_at m hok c t _ _).symm)
  · funext y
    rw [eq_ix3 (n0 := 1) (n1 := 1024) (n2 := 1024) y, Subsingleton.elim (α := Fin 1) (y 0) 0]
    exact (wd_at m hok c s _ _).trans (((congrArg (fun e => V m c main_arg5 (ix3 e (y 1) (y 2))) e)).trans (wd_at m hok c t _ _).symm)

/-! ## The body at a point -/

/-- The body as the pipeline calls it at point `t`. -/
abbrev bodyAt (t : Fin (cfgT m hok).N) : Prog (TpuEff nD τ sig (Elt F) Λ₀ .tc) PUnit :=
  defs₀ (F := F) .tc (cfgT m hok).body ((cfgT m hok).bodyArgs t ((cfgT m hok).slots t))

/-- What the body is called with at point `t`, and what it returns. -/
def bodyPre (c : Dev nD) (t : Fin (cfgT m hok).N) : sProp 𝕄 :=
  iprop(inv m hok c t.castSucc ∗ (dats m hok 0 c).owesAt () t.castSucc
    ∗ (∃ d, owns (c : Thread nD τ) (spec0_0.stage ((cfgT m hok).slots t 0)) fullShare ((dats m hok 0 c).before 0 t d))
    ∗ (∃ d, owns (c : Thread nD τ) (spec0_1.stage ((cfgT m hok).slots t 1)) fullShare ((dats m hok 0 c).before 1 t d))
    ∗ (∃ d, owns (c : Thread nD τ) (spec0_2.stage ((cfgT m hok).slots t 2)) fullShare ((dats m hok 0 c).before 2 t d))
    ∗ (∃ d, owns (c : Thread nD τ) (spec0_3.stage ((cfgT m hok).slots t 3)) fullShare ((dats m hok 0 c).before 3 t d))
    ∗ (∃ d, owns (c : Thread nD τ) (spec0_4.stage ((cfgT m hok).slots t 4)) fullShare ((dats m hok 0 c).before 4 t d))
    ∗ (∃ d, owns (c : Thread nD τ) (spec0_5.stage ((cfgT m hok).slots t 5)) fullShare ((dats m hok 0 c).before 5 t d)))

def bodyPost (c : Dev nD) (t : Fin (cfgT m hok).N) : sProp 𝕄 :=
  iprop(inv m hok c t.succ ∗ (dats m hok 0 c).owesAt () t.succ
    ∗ owns (c : Thread nD τ) (spec0_0.stage ((cfgT m hok).slots t 0)) fullShare ((dats m hok 0 c).after 0 t)
    ∗ owns (c : Thread nD τ) (spec0_1.stage ((cfgT m hok).slots t 1)) fullShare ((dats m hok 0 c).after 1 t)
    ∗ owns (c : Thread nD τ) (spec0_2.stage ((cfgT m hok).slots t 2)) fullShare ((dats m hok 0 c).after 2 t)
    ∗ owns (c : Thread nD τ) (spec0_3.stage ((cfgT m hok).slots t 3)) fullShare ((dats m hok 0 c).after 3 t)
    ∗ owns (c : Thread nD τ) (spec0_4.stage ((cfgT m hok).slots t 4)) fullShare ((dats m hok 0 c).after 4 t)
    ∗ owns (c : Thread nD τ) (spec0_5.stage ((cfgT m hok).slots t 5)) fullShare ((dats m hok 0 c).after 5 t))

theorem body_at (t : Fin (cfgT m hok).N) : bodyAt m hok t
    = cc0_moe_ffn (grid0.coords t) (Memref.whole main_v11) (Memref.isWhole_whole _) (Memref.whole main_arg1) (Memref.isWhole_whole _)
      (spec0_0.stage ((cfgT m hok).slots t 0)) (hstage0_0 (((cfgT m hok).slots t 0).cast nbuf0_0)) (spec0_1.stage ((cfgT m hok).slots t 1)) (hstage0_1 (((cfgT m hok).slots t 1).cast nbuf0_1))
      (spec0_2.stage ((cfgT m hok).slots t 2)) (hstage0_2 (((cfgT m hok).slots t 2).cast nbuf0_2)) (spec0_3.stage ((cfgT m hok).slots t 3)) (hstage0_3 (((cfgT m hok).slots t 3).cast nbuf0_3))
      (spec0_4.stage ((cfgT m hok).slots t 4)) (hstage0_4 (((cfgT m hok).slots t 4).cast nbuf0_4)) (spec0_5.stage ((cfgT m hok).slots t 5)) (hstage0_5 (((cfgT m hok).slots t 5).cast nbuf0_5))
      (Memref.whole cc0_scratch0) (Memref.isWhole_whole _) (Memref.whole cc0_scratch1) (Memref.isWhole_whole _) := by
  unfold bodyAt defs₀; rw [Defs.onTc_tc]

theorem sound_body (c : Dev nD) (t : Fin (cfgT m hok).N) :
    bodyPre m hok c t ⊢ wp frame (wpE (defs₀ (F := F)) Variants.none c none) Set.univ (bodyAt m hok t) (fun _ => bodyPost m hok c t) := by
  rw [body_at]
  unfold bodyPre bodyPost
  rw [show (dats m hok 0 c).owesAt () t.succ = (dats m hok 0 c).owesAt () t.castSucc from rfl,
    show (dats m hok 0 c).after 0 t = xAt m hok c t from after_0 m hok c t, show (dats m hok 0 c).after 1 t = wuAt m hok c t from after_1 m hok c t,
    show (dats m hok 0 c).after 2 t = buAt m hok c t from after_2 m hok c t, show (dats m hok 0 c).after 3 t = wdAt m hok c t from after_3 m hok c t,
    show (dats m hok 0 c).after 4 t = bdAt m hok c t from after_4 m hok c t, after_5]
  simp only [before_0, before_1, before_2, before_3, before_4]
  unfold inv
  iintro ⟨⟨%u, %d, %hud, Hb, Hn, Hu, Hd⟩, Ho, ⟨%d0, H0⟩, ⟨%d1, H1⟩, ⟨%d2, H2⟩, ⟨%d3, H3⟩, ⟨%d4, H4⟩, ⟨%d5, H5⟩⟩
  by_cases h1 : act m t
  · have h3 : ¬ k0_cond3 (grid0.coords t) (nOf (nTbl m)) = 1#1 := fun h => (cond3_iff _ _).mp h h1
    have hl : leaves m hok c t = outOf (xAt m hok c t) (k0_pay3 (wuAt m hok c t)) (buAt m hok c t) (k0_pay4 (wdAt m hok c t)) (bdAt m hok c t) := if_pos h1
    rw [hl]
    by_cases hn : new (bTbl m) (grid0.coords t) = 1#1
    · iapply (body_new c Set.univ (grid0.coords t) _ _ _ _ _ _ _ _ _ _ _ _ (bTbl m) (nTbl m) _ (xAt m hok c t) (wuAt m hok c t) (wdAt m hok c t) (buAt m hok c t) (bdAt m hok c t) h1 hn h3)
      isplitl [Hb]; · iexact Hb
      isplitl [Hn]; · iexact Hn
      isplitl [Hu]; · iexists u; iexact Hu
      isplitl [Hd]; · iexists d; iexact Hd
      isplitl [H0]; · iexact H0
      isplitl [H1]; · iexact H1
      isplitl [H2]; · iexact H2
      isplitl [H3]; · iexact H3
      isplitl [H4]; · iexact H4
      isplitl [H5]; · iexists _; iexact H5
      iintro ⟨Hb, Hn, Hu, Hd, H0, H1, H2, H3, H4, H5⟩
      isplitl [Hb Hn Hu Hd]
      · iexists (k0_pay3 (wuAt m hok c t)), (k0_pay4 (wdAt m hok c t))
        isplitr
        · ipureintro
          intro s hs _
          obtain rfl : s = t := Fin.ext (Nat.succ_injective hs)
          exact ⟨rfl, rfl⟩
        isplitl [Hb]; · iexact Hb
        isplitl [Hn]; · iexact Hn
        isplitl [Hu]; · iexact Hu
        iexact Hd
      isplitl [Ho]; · iexact Ho
      isplitl [H0]; · iexact H0
      isplitl [H1]; · iexact H1
      isplitl [H2]; · iexact H2
      isplitl [H3]; · iexact H3
      isplitl [H4]; · iexact H4
      iexact H5
    · obtain ⟨s, hs, hse⟩ := not_new m t hn
      have hact : act m s := (act_iff m s).mpr (by have := (act_iff m t).mp h1; omega)
      obtain ⟨eu, ed⟩ := same_w m hok c s t hse
      obtain rfl : u = k0_pay3 (wuAt m hok c t) := (hud s hs hact).1.trans (congrArg _ eu)
      obtain rfl : d = k0_pay4 (wdAt m hok c t) := (hud s hs hact).2.trans (congrArg _ ed)
      iapply (body_same c Set.univ (grid0.coords t) _ _ _ _ _ _ _ _ _ _ _ _ (bTbl m) (nTbl m) _ (xAt m hok c t) (buAt m hok c t) (bdAt m hok c t) (k0_pay3 (wuAt m hok c t)) (k0_pay4 (wdAt m hok c t)) h1 hn h3)
      isplitl [Hb]; · iexact Hb
      isplitl [Hn]; · iexact Hn
      isplitl [Hu]; · iexact Hu
      isplitl [Hd]; · iexact Hd
      isplitl [H0]; · iexact H0
      isplitl [H2]; · iexact H2
      isplitl [H4]; · iexact H4
      isplitl [H5]; · iexists _; iexact H5
      iintro ⟨Hb, Hn, Hu, Hd, H0, H2, H4, H5⟩
      isplitl [Hb Hn Hu Hd]
      · iexists (k0_pay3 (wuAt m hok c t)), (k0_pay4 (wdAt m hok c t))
        isplitr
        · ipureintro
          intro s hs _
          obtain rfl : s = t := Fin.ext (Nat.succ_injective hs)
          exact ⟨rfl, rfl⟩
        isplitl [Hb]; · iexact Hb
        isplitl [Hn]; · iexact Hn
        isplitl [Hu]; · iexact Hu
        iexact Hd
      isplitl [Ho]; · iexact Ho
      isplitl [H0]; · iexact H0
      isplitl [H1]; · iexact H1
      isplitl [H2]; · iexact H2
      isplitl [H3]; · iexact H3
      isplitl [H4]; · iexact H4
      iexact H5
  · have hl : leaves m hok c t = k0_pay2 := if_neg h1
    rw [hl]
    iapply (body_idle c Set.univ (grid0.coords t) _ _ _ _ _ _ _ _ _ _ _ _ (nTbl m) _ h1 ((cond3_iff _ _).mpr h1))
    isplitl [Hn]; · iexact Hn
    isplitl [H5]; · iexists _; iexact H5
    iintro ⟨Hn, H5⟩
    isplitl [Hb Hn Hu Hd]
    · iexists u, d
      isplitr
      · ipureintro
        intro s hs hact
        obtain rfl : s = t := Fin.ext (Nat.succ_injective hs)
        exact absurd hact h1
      isplitl [Hb]; · iexact Hb
      isplitl [Hn]; · iexact Hn
      isplitl [Hu]; · iexact Hu
      iexact Hd
    isplitl [Ho]; · iexact Ho
    isplitl [H0]; · iexact H0
    isplitl [H1]; · iexact H1
    isplitl [H2]; · iexact H2
    isplitl [H3]; · iexact H3
    isplitl [H4]; · iexact H4
    iexact H5

/-- The pipeline's obligation on the body. -/
theorem body_obligation (c : Dev nD) : BodyObligation (dats m hok 0 c) (defs₀ (F := F)) Variants.none () Set.univ := fun t => by
  rw [bigSep_W0, bigSep_W0]
  refine triple_restated (sound_body m hok c t) rfl .rfl fun _ => ?_
  dsimp only
  rw [idle_5]
  exact .rfl

end Cert.Kernel3Ideal.Experts

end
-- ==== Proof.ExpertsRun.lean ====
/- The experts' kernel: the run of the program, from the body's obligation. -/
module

public import proofs.«01_k».proof.Proof.ExpertsBody
public import Idealize.ShloMosaic.Lib.Pipeline.RegionArraysTS
public import Idealize.ShloMosaic.Lib.Pipeline.FrameTail

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation ucRefs)

variable {F : FTy → Type} [FloatOps F]

local notation "𝕄" => MT nD τ sig Unit (Elt F) ℕ (UR sig nD τ) ℕ

variable (m : (ℓ : Loc nD τ sig) → Buf (Elt F) ℓ) (ρ : Dev nD → PrngReg) (hok : ok0 (tbl m))

/-- Core `c`'s buffers at launch, when the region is entered, and when it is left. -/
abbrev V₀ (c : Dev nD) : Valuation τ sig (Elt F) := StableHlo.launchContents m c
abbrev V₁ (c : Dev nD) : Valuation τ sig (Elt F) := StableHlo.after hostOps0 (V₀ m c)
abbrev V₂ (c : Dev nD) : Valuation τ sig (Elt F) := Pipeline.afterRegion (dats m hok 0 c) (V₁ m c)

/-- One level, zero, at every semaphore of a TensorCore. -/
def L : GSem nD τ sig → Finset Unit := fun g => if g.1.2 = .tc then {()} else ∅
abbrev lv : GSem nD τ sig → Unit → ℕ := fun _ _ => 0

/-- Beside the buffers, a core owes nothing. -/
abbrev R (c : Dev nD) : sProp 𝕄 := iprop(∃ W, owes (c : Thread nD τ) (0 : CellTallies nD τ sig Unit) W)

/-- The host operations. -/
def seg0 : Pipeline.HostSeg (Name := ℕ) (U := UR sig nD τ) (pcfgs (F := F)) defs₀ Variants.none L lv :=
  Pipeline.HostSeg.ofOps _ _ _ _ _ (ucRefs τ sig) hostOps0 (fun op h => Pipeline.sub_ucRefs op ((List.forall_iff_forall_mem.mp hostOps0_sub) op h))
    (by intro _ h; (repeat (cases h with | head => rfl | tail _ h => ?_)); exact nomatch h) (V₀ m) R

theorem tables_eq (c : Dev nD) : (Pipeline.tablesAt (pcfgs (F := F)) (adm m hok) 0 c : sProp 𝕄)
    = iprop(((c : Thread nD τ).loc main_v11 ↦{fullShare} bTbl m) ∗ ((c : Thread nD τ).loc main_arg1 ↦{fullShare} nTbl m)) :=
  bigSep_univ_eq_bigSepL [(0 : Fin 2), (1 : Fin 2)] (by decide) (by decide) _

theorem enter (c : Dev nD) : iprop(iprop(Pipeline.scopedRest (Pipeline.pin (pcfgs (F := F)) (adm m hok) 0).spec c ∗ emp)
    ∗ Pipeline.tablesAt (pcfgs (F := F)) (adm m hok) 0 c) ⊢ (inv m hok c 0 : sProp 𝕄) := by
  rw [show (Pipeline.pin (pcfgs (F := F)) (adm m hok) 0).spec = spec0 from rfl, scopedRest0_eq, tables_eq]
  unfold inv
  simp only [owns_whole_eq]
  iintro ⟨⟨⟨⟨%u, Hu⟩, ⟨%d, Hd⟩⟩, -⟩, Hb, Hn⟩
  iexists u, d
  isplitr
  · ipureintro; intro s hs; exact absurd hs (Nat.succ_ne_zero _)
  isplitl [Hb]; · iexists _; isplitr; swap; (· iexact Hb); ipureintro; rfl
  isplitl [Hn]; · iexists _; isplitr; swap; (· iexact Hn); ipureintro; rfl
  isplitl [Hu]; · iexists _; isplitr; swap; (· iexact Hu); ipureintro; rfl
  iexists _; isplitr; swap; (· iexact Hd); ipureintro; rfl

theorem leave (c : Dev nD) (t : Fin (grid0.N + 1)) : (inv m hok c t : sProp 𝕄) ⊢ iprop(iprop(Pipeline.scopedRest (Pipeline.pin (pcfgs (F := F)) (adm m hok) 0).spec c ∗ emp)
    ∗ Pipeline.tablesAt (pcfgs (F := F)) (adm m hok) 0 c) := by
  rw [show (Pipeline.pin (pcfgs (F := F)) (adm m hok) 0).spec = spec0 from rfl, scopedRest0_eq, tables_eq]
  unfold inv
  simp only [owns_whole_eq]
  iintro ⟨%u, %d, -, ⟨%fb, %hb, Hb⟩, ⟨%fn, %hn, Hn⟩, ⟨%fu, %hu, Hu⟩, ⟨%fd, %hd, Hd⟩⟩
  subst hb hn
  isplitl [Hu Hd]
  · isplitl [Hu Hd]
    · isplitl [Hu]; · iexists _; iexact Hu
      iexists _; iexact Hd
    iempintro
  isplitl [Hb]; · iexact Hb
  iexact Hn

theorem hT (c : Dev nD) (k : Fin pre0.K) : tbl m k = V₁ m c (Proc.devRef .tc (pre0.ref k)) := by
  obtain rfl : c = 0 := Subsingleton.elim _ _
  rfl

theorem cut : Pipeline.LevelCut (pcfgs (F := F)) (adm m hok) () L lv 0 (fun _ : Dev nD => (0 : CellTallies nD τ sig Unit)) (fun _ => 0) where
  hι c w s := by unfold L; rw [if_pos rfl]; exact Finset.mem_singleton_self _
  hιb _ _ _ := le_refl _
  hD _ _ _ h := absurd h (lt_irrefl _)

set_option backward.isDefEq.respectTransparency.types false in
/-- The region, between the buffers at `V₁` and at `V₂`. -/
def reg0 : Pipeline.RegionSeg (pcfgs (F := F)) (adm m hok) (dats m hok) () defs₀ Variants.none L lv 0 :=
  Pipeline.RegionSeg.ofHeldInT (pcfgs (F := F)) (adm m hok) (dats m hok) () defs₀ Variants.none L lv 0 (fun _ => 0) (ucRefs τ sig)
    (fun _ => iprop(emp)) (fun _ => iprop(emp)) launch0 (fun c => (body_obligation m hok c).loose) (fun _ _ => rfl) (fun _ => rfl)
    (fun c => (dats m hok 0 c).share_full fun _ => rfl) (enter m hok) (fun c => leave m hok c _) (fun _ => 0) (cut m hok)
    (fun _ => iprop(emp)) (V₁ m) (fun c w => A_eq m hok c w) (hT m)

theorem hS : Pipeline.arrRefs (τ := τ) spec0 ⊆ ucRefs τ sig := Pipeline.arrRefs_sub_ucRefs spec0 (by decide)
theorem hS' : Pipeline.tblRefs (τ := τ) pre0 ⊆ ucRefs τ sig := Pipeline.tblRefs_sub_ucRefs pre0 (by decide)

theorem reg0_pre (c : Dev nD) : iprop(StableHlo.held (c : Thread nD τ) (ucRefs τ sig) (V₁ m c) ∗ R c) ⊢ (reg0 m hok).pre c := by
  unfold reg0
  refine BIBase.Entails.trans ?_ (Pipeline.RegionSeg.ofHeldInT_pre (pcs := pcfgs (F := F)) (a := adm m hok) (pdats := dats m hok) (p := 0) hS hS' c)
  iintro ⟨H, HO⟩
  isplitl [H]; · iexact H
  isplitl [HO]; · iexact HO
  isplitr <;> iempintro

theorem reg0_post (c : Dev nD) : (reg0 m hok).post c ⊢ iprop(StableHlo.held (c : Thread nD τ) (ucRefs τ sig) (V₂ m hok c) ∗ R c) := by
  unfold reg0
  refine BIBase.Entails.trans (Pipeline.RegionSeg.ofHeldInT_post (pcs := pcfgs (F := F)) (a := adm m hok) (pdats := dats m hok) (p := 0) hS hS' c) ?_
  iintro ⟨H, HO, -, -⟩
  isplitl [H]; · iexact H
  iexact HO

abbrev segs : List (Pipeline.Seg (pcfgs (F := F)) (adm m hok) (dats m hok) () defs₀ Variants.none L lv) := [.host (seg0 m), .region (reg0 m hok)]

set_option backward.isDefEq.respectTransparency.types false in
/-- Every fair run of the program ends, with every unscoped buffer as the region leaves it and every counter at zero. -/
theorem run : θ_run defs (onTc (τ := τ) (main (F := F))) ⟨m, fun _ => 0, ρ⟩ (fun r =>
    (∀ (c : Dev nD), ∀ b ∈ ucRefs τ sig, r.2.mem ((c : Thread nD τ).1, b) = V₂ m hok c b) ∧ r.2.sem = fun _ => 0) :=
  Pipeline.θ_run_regions_kit_sems (pcfgs (F := F)) (adm m hok) (dats m hok) () (launch0.cellOf_inj (adm m hok)) emb₁ defs₀ Variants.none L lv m ρ main (segs m hok)
    (fun c Q => by rw [main_segs (adm m hok) (dats m hok) () Variants.none L lv (seg0 m) (reg0 m hok) rfl c])
    (by simp only [Pipeline.Seg.pipes_host, Pipeline.Seg.pipes_region, Pipeline.Seg.pipes_nil]; decide)
    (O₀ := 0) (hL := fun g h => by unfold L; rw [if_neg h]) (G := fun _ => iprop(emp))
    (u₀ := initOf (Pipeline.cells (Pipeline.pin (pcfgs (F := F)) (adm m hok)) (launch0.cellOf_inj (adm m hok))) (Pipeline.launchToks (Pipeline.pin (pcfgs (F := F)) (adm m hok)) (launch0.cellOf_inj (adm m hok))))
    (hu₀ := by
      iintro Hu
      imodintro
      isplitl [Hu]
      · iapply (show (ownU _ : sProp 𝕄) ⊢ BI.own (emb₁ (initOf (Pipeline.cells (Pipeline.pin (pcfgs (F := F)) (adm m hok)) (launch0.cellOf_inj (adm m hok))) (Pipeline.launchToks (Pipeline.pin (pcfgs (F := F)) (adm m hok)) (launch0.cellOf_inj (adm m hok))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V₀ m c) ∗ R c))
    (Tₙ := fun c => StableHlo.held (c : Thread nD τ) (ucRefs τ sig) (V₂ m hok c))
    (hch := ⟨fun _ => .rfl, fun c => reg0_pre m hok c, fun c => reg0_post m hok c⟩)
    (hinit := by
      refine Pipeline.initEach L lv fun c => ?_
      rw [show unscopedBufs c (fun b => m ((c : Thread nD τ).loc b)) = StableHlo.held (c : Thread nD τ) (ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ ucRefs τ sig, s.mem ((c : Thread nD τ).1, b) = V₂ m hok c b)
    (hfin := fun c s' => by
      unfold StableHlo.held
      iintro ⟨Hh, HSI⟩
      ihave Hr := (pointsTo_read_all (ucRefs τ sig) (fun b => ((c : Thread nD τ).1, b)) (V₂ m hok c) s') $$ [Hh HSI]
      · isplitl [Hh] <;> iassumption
      imodintro; iexact Hr)
    (hQ := fun _ h hz => ⟨h, funext fun g => hz g (.inr (by revert g; decide))⟩)

/-! ## The arguments: no host operation writes one -/

theorem V_arg0 (c : Dev nD) : V₁ m c (Proc.devRef .tc main_arg0) = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem V_arg1 (c : Dev nD) : V₁ m c (Proc.devRef .tc main_arg1) = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem V_arg2 (c : Dev nD) : V₁ m c (Proc.devRef .tc main_arg2) = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem V_arg3 (c : Dev nD) : V₁ m c (Proc.devRef .tc main_arg3) = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem V_arg4 (c : Dev nD) : V₁ m c (Proc.devRef .tc main_arg4) = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem V_arg5 (c : Dev nD) : V₁ m c (Proc.devRef .tc main_arg5) = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem V_arg6 (c : Dev nD) : V₁ m c (Proc.devRef .tc main_arg6) = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

/-- An argument no window reads, and one a window reads, at the end. -/
theorem end_arg0 (c : Dev nD) : V₂ m hok c (Proc.devRef .tc main_arg0) = m ((c : Thread nD τ).loc main_arg0) :=
  (Pipeline.afterRegion_of_not_arr (dats m hok 0 c) (V₁ m c) (b := main_arg0) (show ∀ w : Fin 6, main_arg0 ≠ Pipeline.arrRef spec0 w by decide)).trans (V_arg0 m c)
theorem end_arg1 (c : Dev nD) : V₂ m hok c (Proc.devRef .tc main_arg1) = m ((c : Thread nD τ).loc main_arg1) :=
  (Pipeline.afterRegion_of_not_arr (dats m hok 0 c) (V₁ m c) (b := main_arg1) (show ∀ w : Fin 6, main_arg1 ≠ Pipeline.arrRef spec0 w by decide)).trans (V_arg1 m c)
theorem end_arg4 (c : Dev nD) : V₂ m hok c (Proc.devRef .tc main_arg4) = m ((c : Thread nD τ).loc main_arg4) :=
  (Pipeline.afterRegion_of_not_arr (dats m hok 0 c) (V₁ m c) (b := main_arg4) (show ∀ w : Fin 6, main_arg4 ≠ Pipeline.arrRef spec0 w by decide)).trans (V_arg4 m c)
theorem end_arg6 (c : Dev nD) : V₂ m hok c (Proc.devRef .tc main_arg6) = m ((c : Thread nD τ).loc main_arg6) :=
  (Pipeline.afterRegion_of_not_arr (dats m hok 0 c) (V₁ m c) (b := main_arg6) (show ∀ w : Fin 6, main_arg6 ≠ Pipeline.arrRef spec0 w by decide)).trans (V_arg6 m c)
theorem end_arg2 (c : Dev nD) : V₂ m hok c (Proc.devRef .tc main_arg2) = m ((c : Thread nD τ).loc main_arg2) :=
  (Pipeline.afterRegion_arr (dats m hok 0 c) (V₁ m c) winFacts0.arr_inj 0).trans
    (((dats m hok 0 c).arrAt_in 0 rfl _).trans ((A_eq m hok c 0).trans (V_arg2 m c)))
theorem end_arg3 (c : Dev nD) : V₂ m hok c (Proc.devRef .tc main_arg3) = m ((c : Thread nD τ).loc main_arg3) :=
  (Pipeline.afterRegion_arr (dats m hok 0 c) (V₁ m c) winFacts0.arr_inj 1).trans
    (((dats m hok 0 c).arrAt_in 1 rfl _).trans ((A_eq m hok c 1).trans (V_arg3 m c)))
theorem end_arg5 (c : Dev nD) : V₂ m hok c (Proc.devRef .tc main_arg5) = m ((c : Thread nD τ).loc main_arg5) :=
  (Pipeline.afterRegion_arr (dats m hok 0 c) (V₁ m c) winFacts0.arr_inj 3).trans
    (((dats m hok 0 c).arrAt_in 3 rfl _).trans ((A_eq m hok c 3).trans (V_arg5 m c)))

/-- The result at the end. -/
theorem end_v14 (c : Dev nD) : V₂ m hok c (Proc.devRef .tc main_v14) = (dats m hok 0 c).arrAt 5 (cfgT m hok).N :=
  Pipeline.afterRegion_arr (dats m hok 0 c) (V₁ m c) (winFacts0.arr_inj) 5

include hok in
/-- The arguments end unchanged and every counter is zero again. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c _ (Pipeline.devRef_mem_ucRefs (b := main_arg0) rfl)).trans (end_arg0 m hok c),
    (h.1 c _ (Pipeline.devRef_mem_ucRefs (b := main_arg1) rfl)).trans (end_arg1 m hok c),
    (h.1 c _ (Pipeline.devRef_mem_ucRefs (b := main_arg2) rfl)).trans (end_arg2 m hok c),
    (h.1 c _ (Pipeline.devRef_mem_ucRefs (b := main_arg3) rfl)).trans (end_arg3 m hok c),
    (h.1 c _ (Pipeline.devRef_mem_ucRefs (b := main_arg4) rfl)).trans (end_arg4 m hok c),
    (h.1 c _ (Pipeline.devRef_mem_ucRefs (b := main_arg5) rfl)).trans (end_arg5 m hok c),
    (h.1 c _ (Pipeline.devRef_mem_ucRefs (b := main_arg6) rfl)).trans (end_arg6 m hok c)⟩, h.2⟩) (run m ρ hok)

/-- The result is the output window's array, and the arguments end unchanged. -/
theorem result : θ_run defs (onTc (τ := τ) (main (F := F))) ⟨m, fun _ => 0, ρ⟩ (fun r => ∀ c : Dev nD,
      r.2.mem ((c.tc : Thread nD τ).loc main_v14) = (dats m hok 0 c).arrAt 5 (cfgT m hok).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1 c _ (Pipeline.devRef_mem_ucRefs (b := main_v14) rfl)).trans (end_v14 m hok c),
    (h.1 c _ (Pipeline.devRef_mem_ucRefs (b := main_arg0) rfl)).trans (end_arg0 m hok c),
    (h.1 c _ (Pipeline.devRef_mem_ucRefs (b := main_arg1) rfl)).trans (end_arg1 m hok c),
    (h.1 c _ (Pipeline.devRef_mem_ucRefs (b := main_arg2) rfl)).trans (end_arg2 m hok c),
    (h.1 c _ (Pipeline.devRef_mem_ucRefs (b := main_arg3) rfl)).trans (end_arg3 m hok c),
    (h.1 c _ (Pipeline.devRef_mem_ucRefs (b := main_arg4) rfl)).trans (end_arg4 m hok c),
    (h.1 c _ (Pipeline.devRef_mem_ucRefs (b := main_arg5) rfl)).trans (end_arg5 m hok c),
    (h.1 c _ (Pipeline.devRef_mem_ucRefs (b := main_arg6) rfl)).trans (end_arg6 m hok c)⟩) (run m ρ hok)

end Cert.Kernel3Ideal.Experts

end
-- ==== Proof.ExpertsTable.lean ====
/- The experts' kernel: the table its region reads, and that the blocks it names lie in their arrays. -/
module

public import proofs.«01_k».proof.Proof.ExpertsRun
public import Idealize.ShloMosaic.Lib.WordCmp
public import proofs.«01_k».proof.Pre_tables
public import Idealize.ShloMosaic.Lib.StableHlo.ReadAt

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic
open Idealize.SL.Sem

variable {F : FTy → Type} [FloatOps F]
variable (m : (ℓ : Loc nD τ sig) → Buf (Elt F) ℓ)

/-- The gather along the table's only axis: the entry at the index, held to the table's ends. -/
theorem table_gather (x : IVec S316 32) (idx : IVec S316x1 32) (t : Fin 316) :
    Host.gather gather_S316_S316x1_S316_n_0_n_n_0_1_1 x idx (ix1 t) = x (ix1 ⟨min (idx (ix2 t (0 : Fin 1))).toInt.toNat 315, by omega⟩) := by
  unfold Host.gather
  refine congrArg x (funext fun a => Fin.ext ?_)
  match a with
  | ⟨0, _⟩ =>
    have hs : gather_S316_S316x1_S316_n_0_n_n_0_1_1.siIdx (ix1 t) ⟨0, by decide⟩ = ix2 t (0 : Fin 1) := by
      funext b
      match b with
      | ⟨0, _⟩ => rfl
      | ⟨1, _⟩ => rfl
    show min (idx (gather_S316_S316x1_S316_n_0_n_n_0_1_1.siIdx (ix1 t) ⟨0, by decide⟩)).toInt.toNat 315 + 0 + 0 = _
    rw [hs]
    rfl

/-- The word the host reads the experts' table at, for block `t`. -/
def at_ (n : BitVec 32) (t : Fin 316) : BitVec 32 := IntOp.minsi (BitVec.ofNat 32 t) (n - 1#32)

/-- The table and the number of active blocks, as given. -/
abbrev tbl₀ : S316.Idx → BitVec 32 := m ((0 : Dev nD).tc.loc main_arg0)
abbrev na : BitVec 32 := m ((0 : Dev nD).tc.loc main_arg1) (ix1 (0 : Fin 1))

theorem nOf_eq : nOf (nTbl m) = na m := by
  have e : nTbl m = m ((0 : Dev nD).tc.loc main_arg1) := V_arg1 m 0
  unfold nOf
  rw [e]
  refine congrArg (m ((0 : Dev nD).tc.loc main_arg1)) (funext fun a => Fin.ext ?_)
  fin_cases a
  simp [ix1, Shape.Idx.first]

/-- The word made nonnegative, as an index counted from the end would be. -/
def wrap (n : BitVec 32) (t : Fin 316) : BitVec 32 := Scalar.select (IntOp.cmpi .slt (at_ n t) 0#32) (at_ n t + 316#32) (at_ n t)

theorem expert_raw (t : Fin 316) : expert m t = tbl₀ m (ix1 ⟨min (wrap (na m) t).toInt.toNat 315, by omega⟩) := by
  have hn : (fun i => shapeCast main_v1.ty.shape (m (0, Proc.tc.devRef main_arg1)) shapeCasts_S1_S_ i) = fun _ => na m :=
    funext fun i => congrArg (m ((0 : Dev nD).tc.loc main_arg1)) (funext fun a => Fin.ext (by fin_cases a; exact Nat.lt_one_iff.mp (Fin.isLt _)))
  unfold expert bTbl tbl V
  refine Eq.trans (?_ : StableHlo.after hostOps0 (fun b => m (0, b)) (Proc.devRef .tc main_v11) (ix1 t)
    = Host.gather gather_S316_S316x1_S316_n_0_n_n_0_1_1 (m ((0 : Dev nD).tc.loc main_arg0)) (fun y => wrap (na m) (y 0)) (ix1 t)) (table_gather _ _ _)
  after_reads_simp
  rw [hn]
  rfl

variable (ha : ∀ i : Fin 316, 0 ≤ (tbl₀ m (ix1 i)).toInt ∧ (tbl₀ m (ix1 i)).toInt < 32) (hn : 1 ≤ (na m).toInt)

/-- The word is the block's number or the last active one's, and nonnegative. -/
theorem at_toInt (n : BitVec 32) (h : 1 ≤ n.toInt) (t : Fin 316) : (at_ n t).toInt = min (t : ℤ) (n.toInt - 1) := by
  have ht := t.isLt
  have h1 : (BitVec.ofNat 32 (t : ℕ)).toInt = (t : ℤ) := by rw [BitVec.toInt_ofNat', Int.bmod_eq_of_le (by omega) (by omega)]
  have hb := BitVec.toInt_lt (x := n)
  have h2 : (n - 1#32).toInt = n.toInt - 1 := by
    rw [BitVec.toInt_sub, show (1#32 : BitVec 32).toInt = 1 from rfl, Int.bmod_eq_of_le (by omega) (by omega)]
  unfold at_ IntOp.minsi
  rw [← h1, ← h2]
  split <;> rename_i hc <;> simp only [BitVec.sle_iff_toInt_le, BitVec.slt_iff_toInt_lt] at hc <;> omega

theorem at_eq (n : BitVec 32) (h : 1 ≤ n.toInt) (t : Fin 316) : (wrap n t).toInt = min (t : ℤ) (n.toInt - 1) := by
  have h3 := at_toInt n h t
  have h4 : IntOp.cmpi .slt (at_ n t) 0#32 = 0#1 := by
    show BitVec.ofBool (BitVec.slt (at_ n t) 0#32) = 0#1
    rw [show BitVec.slt (at_ n t) 0#32 = false by rw [BitVec.slt_eq_decide, h3]; simp; omega]
    rfl
  unfold wrap
  rw [h4]
  exact h3

include hn in
/-- Block `t`'s expert is the table's entry of the block, or of the last active one. -/
theorem expert_eq (t : Fin 316) : expert m t = tbl₀ m (ix1 ⟨(min (t : ℤ) ((na m).toInt - 1)).toNat, by omega⟩) := by
  have := t.isLt
  rw [expert_raw]
  refine congrArg (fun k => tbl₀ m (ix1 k)) (Fin.ext ?_)
  simp only [at_eq _ hn]
  omega

include ha in
theorem expert_small (t : Fin 316) : (expert m t).toNat < 32 := by
  rw [expert_raw]
  have := ha ⟨min (wrap (na m) t).toInt.toNat 315, by omega⟩
  rw [BitVec.toInt_eq_toNat_cond] at this
  split at this <;> omega

include hn in
/-- Where block `t` of the rows is fetched: the block itself, or the last active one. -/
theorem row_at (t : Fin grid0.N) :
    cc0_transform_0 inb_S1_S1_0 numel1_S1 (tbl m) (grid0.coords t) = ![(min (t.val : ℤ) ((na m).toInt - 1)).toNat, 0] := by
  have e : cc0_transform_0 inb_S1_S1_0 numel1_S1 (tbl m) (grid0.coords t) = ![(at_ (nOf (nTbl m)) (grid0.coords t 0)).toNat, 0] := rfl
  rw [e, nOf_eq, show grid0.coords t 0 = t from Fin.ext (coords_val t)]
  have h := at_toInt _ hn t
  have ht := t.isLt
  rw [BitVec.toInt_eq_toNat_cond] at h
  congr 1
  split at h <;> omega

theorem coords_onto (i : grid0.Coords) : ∃ t : Fin grid0.N, grid0.coords t = i := by
  refine ⟨i 0, funext fun a => ?_⟩
  fin_cases a
  exact Fin.ext (coords_val (i 0))

include ha hn in
/-- Every block the tables name lies in its array. -/
theorem ok : ok0 (tbl m) := by
  have e (t : Fin grid0.N) := tbl_at m t _ (k0_off1_inb (grid0.coords t)) t (offs t).1
  have h1 (t : Fin grid0.N) : (![BitVec.toNat (bTbl m ((Rect.unit (s := S316) (k0_off1 (grid0.coords t)) S1.size (k0_off1_inb (grid0.coords t))).emb (Shape.Idx.first (numel1_S1.symm ▸ Nat.one_pos)))), 0, 0] : Fin 3 → ℕ) = ![(expert m t).toNat, 0, 0] := by rw [e]
  have hs := expert_small m ha
  refine ⟨fun i => ?_, fun i => ?_, fun i => ?_, fun i => ?_, fun i => ?_⟩
  · obtain ⟨t, rfl⟩ := coords_onto i
    have ht := t.isLt
    have h : ∀ a, (cc0_transform_0 inb_S1_S1_0 numel1_S1 (tbl m) (grid0.coords t) a + 1) * S512x512.size a ≤ S161792x512.size a := by
      rw [row_at m hn t]
      intro a
      fin_cases a
      · show ((min (t.val : ℤ) ((na m).toInt - 1)).toNat + 1) * 512 ≤ 161792
        have : t.val < 316 := ht
        omega
      · exact Nat.le_refl _
    exact ⟨h, .inl rfl⟩
  all_goals
    obtain ⟨t, rfl⟩ := coords_onto i
    have ht := hs t
    refine ⟨?_, .inl rfl⟩
    first
    | rw [show cc0_transform_1 k0_off1_inb numel1_S1 (tbl m) (grid0.coords t) = ![(expert m t).toNat, 0, 0] from h1 t]
    | rw [show cc0_transform_2 k0_off1_inb numel1_S1 (tbl m) (grid0.coords t) = ![(expert m t).toNat, 0, 0] from h1 t]
    | rw [show cc0_transform_3 k0_off1_inb numel1_S1 (tbl m) (grid0.coords t) = ![(expert m t).toNat, 0, 0] from h1 t]
    | rw [show cc0_transform_4 k0_off1_inb numel1_S1 (tbl m) (grid0.coords t) = ![(expert m t).toNat, 0, 0] from h1 t]
    intro a
    fin_cases a
    · show ((expert m t).toNat + 1) * 1 ≤ 32
      omega
    all_goals exact Nat.le_refl _

/-- What the stated precondition says of the table and the number of active blocks. -/
theorem of_pre [hP : Cert.Pre_tables.Facts] (a : IVec S316 32) (n : IVec S1 32) (x : IVec S161792x512 32) (u : FVec F S32x1024x2048 .f32)
    (bu : FVec F S32x2048 .f32) (d : FVec F S32x1024x1024 .f32) (bd : FVec F S32x1024 .f32)
    (h : (Cert.Pre_tables.fn (F := F) a n x u bu d bd).1 = (fun _ => 1#1) ∧ (Cert.Pre_tables.fn (F := F) a n x u bu d bd).2.1 = (fun _ => 1#1)
      ∧ (Cert.Pre_tables.fn (F := F) a n x u bu d bd).2.2 = (fun _ => 1#1)) :
    (∀ i : Fin 316, 0 ≤ (a (ix1 i)).toInt ∧ (a (ix1 i)).toInt < 32) ∧ 1 ≤ (n (ix1 (0 : Fin 1))).toInt := by
  have one (b : Bool) : BitVec.ofBool b = 1#1 ↔ b = true := by cases b <;> decide
  obtain ⟨h1, h2, h3⟩ := h
  refine ⟨fun i => ⟨?_, ?_⟩, ?_⟩
  · have : BitVec.ofBool (BitVec.sle 0#32 (a (ix1 i))) = 1#1 := congrFun h1 (ix1 i)
    rw [one, BitVec.sle_iff_toInt_le] at this
    exact this
  · have : BitVec.ofBool (BitVec.slt (a (ix1 i)) 32#32) = 1#1 := congrFun h2 (ix1 i)
    rw [one, BitVec.slt_iff_toInt_lt] at this
    exact this
  · have : BitVec.ofBool (BitVec.sle 1#32 (n (ix1 0))) = 1#1 := congrFun h3 (ix1 0)
    rw [one, BitVec.sle_iff_toInt_le] at this
    exact this

end Cert.Kernel3Ideal.Experts

end
-- ==== Proof.ExpertsValue.lean ====
/- The experts' kernel: what its result holds, entry by entry. -/
module

public import proofs.«01_k».proof.Proof.ExpertsTable
public import Idealize.ShloMosaic.Lib.Pipeline.ValueKit
public import Idealize.ShloMosaic.Lib.Pointwise

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic
open Idealize.SL.Sem
open Idealize.ShloMosaic.Pipeline (Dat)

/-- A row through one column of the first projection. -/
def up (x : Fin 1024 → EReal) (w : Fin 1024 → EReal) (b : EReal) : EReal := (∑ k, x k * w k) + b

/-- The gated unit, of its gated and its linear half. -/
def unit_ (g l : EReal) : EReal :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) l) + Ideal.ofBits .f32 0x3F800000#32)

/-- One entry of an expert's output for a row. -/
def moe (x : Fin 1024 → EReal) (u : Fin 1024 → Fin 2048 → EReal) (bu : Fin 2048 → EReal) (d : Fin 1024 → EReal) (bd : EReal) : EReal :=
  (∑ f : Fin 1024, unit_ (up x (fun k => u k ⟨f, by omega⟩) (bu ⟨f, by omega⟩)) (up x (fun k => u k ⟨1024 + f, by omega⟩) (bu ⟨1024 + f, by omega⟩)) * d f) + bd

/-- The half-angle form of the logistic function, at every extended real. -/
theorem half_tanh (x : EReal) : Ideal.ofBits .f32 0x3F000000#32 * Ideal.tanh (Ideal.ofBits .f32 0x3F000000#32 * x) + Ideal.ofBits .f32 0x3F000000#32 = Ideal.logistic x := by
  have h : Ideal.ofBits .f32 0x3F000000#32 = ((1 / 2 : ℝ) : EReal) := by
    simp [Ideal.ofBits, Ideal.ieee, -EReal.coe_mul]
    norm_num
  rw [h]
  induction x with
  | bot =>
    rw [EReal.coe_mul_bot_of_pos (by norm_num), Ideal.tanh_bot, Ideal.logistic_bot, ← EReal.coe_one, ← EReal.coe_neg, ← EReal.coe_mul, ← EReal.coe_add]
    norm_num
  | top =>
    rw [EReal.coe_mul_top_of_pos (by norm_num), Ideal.tanh_top, Ideal.logistic_top, ← EReal.coe_one, ← EReal.coe_mul, ← EReal.coe_add]
    norm_num
  | coe x =>
    rw [← EReal.coe_mul, Ideal.tanh_coe, Ideal.logistic_coe, ← EReal.coe_mul, ← EReal.coe_add]
    refine congrArg _ ?_
    have e : Real.exp (-x) = Real.exp (-(1 / 2 * x)) * Real.exp (-(1 / 2 * x)) := by rw [← Real.exp_add]; congr 1; ring
    have e1 : Real.exp (1 / 2 * x) * Real.exp (-(1 / 2 * x)) = 1 := by rw [← Real.exp_add]; simp
    have p := Real.exp_pos (1 / 2 * x)
    have q := Real.exp_pos (-(1 / 2 * x))
    rw [Real.tanh_eq_sinh_div_cosh, Real.sinh_eq, Real.cosh_eq, e]
    generalize Real.exp (1 / 2 * x) = a at *
    generalize Real.exp (-(1 / 2 * x)) = b at *
    field_simp
    nlinarith [e1]

/-- The number in a column of a row of packed words: its sixteen bits are the word's upper ones in the first 512 columns, the
    lower ones of the word 512 columns before in the others. -/
def num (w : Fin 512 → BitVec 32) (k : Fin 1024) : EReal :=
  if h : (k : ℕ) < 512 then Ideal.ofBits .f32 (w ⟨k, h⟩ &&& 0xFFFF0000#32) else Ideal.ofBits .f32 (w ⟨k - 512, by omega⟩ <<< 16)

theorem pay5_at (x : IVec S512x512 32) (r : Fin 512) (k : Fin 1024) :
    (k0_pay5 (F := Ideal) x (ix2 r k) : EReal) = num (fun q => x (ix2 r q)) k := by
  unfold num
  split
  · rename_i h
    pointwise [k0_pay5]
    exact dif_pos h
  · rename_i h
    pointwise [k0_pay5]
    exact dif_neg h

theorem pay6_at (x : IVec S512x512 32) (u : FVec Ideal S1024x1024 .bf16) (b : FVec Ideal S1x1x1024 .f32) (r : Fin 512) (f : Fin 1024) :
    (k0_pay6 (F := Ideal) x u b (ix2 r f) : EReal) = min (up (fun k => k0_pay5 (F := Ideal) x (ix2 r k)) (fun k => u (ix2 k f)) (b (ix3 0 0 f))) (Ideal.ofBits .f32 0x40E00000#32) := by
  pointwise [k0_pay6, up]

theorem pay7_at (x : IVec S512x512 32) (u : FVec Ideal S1024x1024 .bf16) (b : FVec Ideal S1x1x1024 .f32) (r : Fin 512) (f : Fin 1024) :
    (k0_pay7 (F := Ideal) x u b (ix2 r f) : EReal) = max (Ideal.ofBits .f32 0xC0E00000#32) (up (fun k => k0_pay5 (F := Ideal) x (ix2 r k)) (fun k => u (ix2 k f)) (b (ix3 0 0 f))) := by
  pointwise [k0_pay7, up]

theorem pay1_at (p q : FVec Ideal S512x1024 .f32) (s : EReal) (d : FVec Ideal S1024x1024 .bf16) (bd : FVec Ideal S1x1x1024 .f32) (r : Fin 512) (j : Fin 1024) :
    (k0_pay1 (F := Ideal) p s q d bd (ix2 r j) : EReal)
      = (∑ f : Fin 1024, (p (ix2 r f) * (Ideal.ofBits .f32 0x3F000000#32 * Ideal.tanh (Ideal.ofBits .f32 0x3F000000#32 * (Ideal.ofBits .f32 0x3FD9DB23#32 * p (ix2 r f))) + Ideal.ofBits .f32 0x3F000000#32)
          * (min s (q (ix2 r f)) + Ideal.ofBits .f32 0x3F800000#32)) * d (ix2 f j)) + bd (ix3 0 0 j) := by
  pointwise [k0_pay1]

/-- The two halves of an expert's cast weights and of its biases, as the body reads them. -/
theorem left_at (u : FVec Ideal S1x1024x2048 .f32) (k f : Fin 1024) :
    (k0_pay3 (F := Ideal) u ((Rect.unit (s := S1024x2048) ![0, 0] S1024x1024.size inb_S1024x2048_S1024x1024_0_0).emb (ix2 k f)) : EReal) = u (ix3 0 k ⟨f, by omega⟩) := by
  rw [show (Rect.unit (s := S1024x2048) ![0, 0] S1024x1024.size inb_S1024x2048_S1024x1024_0_0).emb (ix2 k f) = ix2 k (⟨f, by omega⟩ : Fin 2048) from
    funext fun a => Fin.ext (by fin_cases a <;> simp [ix2])]
  pointwise [k0_pay3]
theorem right_at (u : FVec Ideal S1x1024x2048 .f32) (k f : Fin 1024) :
    (k0_pay3 (F := Ideal) u ((Rect.unit (s := S1024x2048) ![0, 1024] S1024x1024.size inb_S1024x2048_S1024x1024_0_1024).emb (ix2 k f)) : EReal) = u (ix3 0 k ⟨1024 + f, by omega⟩) := by
  rw [show (Rect.unit (s := S1024x2048) ![0, 1024] S1024x1024.size inb_S1024x2048_S1024x1024_0_1024).emb (ix2 k f) = ix2 k (⟨1024 + f, by omega⟩ : Fin 2048) from
    funext fun a => Fin.ext (by fin_cases a <;> simp [ix2])]
  pointwise [k0_pay3]
theorem bleft_at (f : Fin 1024) : (Rect.unit (s := S1x1x2048) ![0, 0, 0] S1x1x1024.size inb_S1x1x2048_S1x1x1024_0_0_0).emb (ix3 0 0 f) = ix3 (0 : Fin 1) (0 : Fin 1) (⟨f, by omega⟩ : Fin 2048) :=
  funext fun a => Fin.ext (by fin_cases a <;> simp [ix3])
theorem bright_at (f : Fin 1024) : (Rect.unit (s := S1x1x2048) ![0, 0, 1024] S1x1x1024.size inb_S1x1x2048_S1x1x1024_0_0_1024).emb (ix3 0 0 f) = ix3 (0 : Fin 1) (0 : Fin 1) (⟨1024 + f, by omega⟩ : Fin 2048) :=
  funext fun a => Fin.ext (by fin_cases a <;> simp [ix3])

theorem up_congr {x x' w w' : Fin 1024 → EReal} {b b' : EReal} (hx : ∀ k, x k = x' k) (hw : ∀ k, w k = w' k) (hb : b = b') : up x w b = up x' w' b' := by
  rw [funext hx, funext hw, hb]

/-- One entry of the block the body stores. -/
theorem outOf_at (x : IVec S512x512 32) (u : FVec Ideal S1x1024x2048 .f32) (bu : FVec Ideal S1x1x2048 .f32) (d : FVec Ideal S1x1024x1024 .f32) (bd : FVec Ideal S1x1x1024 .f32) (r : Fin 512) (j : Fin 1024) :
    (outOf (F := Ideal) x (k0_pay3 (F := Ideal) u) bu (k0_pay4 (F := Ideal) d) bd (ix2 r j) : EReal)
      = moe (num fun k => x (ix2 r k)) (fun k f => u (ix3 0 k f)) (fun f => bu (ix3 0 0 f)) (fun f => d (ix3 0 f j)) (bd (ix3 0 0 j)) := by
  unfold outOf
  refine (pay1_at _ _ (Ideal.ofBits .f32 0x40E00000#32) _ _ r j).trans ?_
  unfold moe
  refine congrArg₂ (fun a b : EReal => a + b) (Finset.sum_congr rfl fun f _ => congrArg₂ (fun a b : EReal => a * b) ?_ ?_) rfl
  · rw [half_tanh, pay6_at, pay7_at]
    unfold unit_
    rw [up_congr (fun k => pay5_at x r k) (fun k => left_at u k f) (congrArg bu (bleft_at f)), up_congr (fun k => pay5_at x r k) (fun k => right_at u k f) (congrArg bu (bright_at f))]
  · pointwise [k0_pay4]

end Cert.Kernel3Ideal.Experts

end
-- ==== Proof.ExpertsArr.lean ====
/- The experts' kernel: the result array after the run, of the arguments. -/
module

public import proofs.«01_k».proof.Proof.ExpertsValue
public import Idealize.ShloMosaic.Lib.StableHlo.ReadAt

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic
open Idealize.SL.Sem
open Idealize.ShloMosaic.Pipeline (Dat)

/-- A table entry as an index of the experts' arrays. -/
def pick (e : BitVec 32) : Fin 32 := ⟨min e.toInt.toNat 31, by omega⟩

/-- The result at a row and a column: its block's expert's output for the row where the block is active, zero elsewhere. -/
def spec (a : S316.Idx → BitVec 32) (n : BitVec 32) (x : S161792x512.Idx → BitVec 32) (u : S32x1024x2048.Idx → EReal) (bu : S32x2048.Idx → EReal)
    (d : S32x1024x1024.Idx → EReal) (bd : S32x1024.Idx → EReal) (p : Fin 161792) (j : Fin 1024) : EReal :=
  if (((p : ℕ) / 512 : ℕ) : ℤ) < n.toInt then
    moe (num fun k => x (ix2 p k)) (fun k f => u (ix3 (pick (a (ix1 ⟨p / 512, by omega⟩))) k f)) (fun f => bu (ix2 (pick (a (ix1 ⟨p / 512, by omega⟩))) f))
      (fun f => d (ix3 (pick (a (ix1 ⟨p / 512, by omega⟩))) f j)) (bd (ix2 (pick (a (ix1 ⟨p / 512, by omega⟩))) j))
  else 0

variable (m : (ℓ : Loc nD τ sig) → Buf (Elt Ideal) ℓ)
variable (ha : ∀ i : Fin 316, 0 ≤ (tbl₀ m (ix1 i)).toInt ∧ (tbl₀ m (ix1 i)).toInt < 32) (hn : 1 ≤ (na m).toInt)
variable (hok : ok0 (tbl m))

theorem moe_congr {x x' : Fin 1024 → EReal} {u u' : Fin 1024 → Fin 2048 → EReal} {bu bu' : Fin 2048 → EReal} {d d' : Fin 1024 → EReal} {bd bd' : EReal}
    (hx : ∀ k, x k = x' k) (hu : ∀ k f, u k f = u' k f) (hbu : ∀ f, bu f = bu' f) (hd : ∀ f, d f = d' f) (hbd : bd = bd') : moe x u bu d bd = moe x' u' bu' d' bd' := by
  rw [funext hx, funext fun k => funext (hu k), funext hbu, funext hd, hbd]

theorem v12_at (c : Dev nD) (e : Fin 32) (f : Fin 2048) : V m c main_v12 (ix3 e 0 f) = m ((c : Thread nD τ).loc main_arg4) (ix2 e f) := by
  unfold V
  after_reads_at

theorem v13_at (c : Dev nD) (e : Fin 32) (f : Fin 1024) : V m c main_v13 (ix3 e 0 f) = m ((c : Thread nD τ).loc main_arg6) (ix2 e f) := by
  unfold V
  after_reads_at

include hn in
theorem x_at (c : Dev nD) (t : Fin grid0.N) (h : act m t) (r : Fin 512) (k : Fin 512) (p : Fin 161792) (hp : (p : ℕ) = 512 * t + r) :
    xAt m hok c t (ix2 r k) = V m c main_arg2 (ix2 p k) := by
  have h' := (act_iff m t).mp h
  rw [nOf_eq] at h'
  have e : ((cfgT m hok).win 0).index t = ![(t : ℕ), 0] :=
    (row_at m hn t).trans (congrArg (fun n => ![n, 0]) (by omega))
  blk_simp [xAt, iblk]
  blk_ext [e]

include ha hn in
theorem ex_eq (t : Fin grid0.N) (h : act m t) : ex m hok t = pick (tbl₀ m (ix1 (n0 := 316) t)) := by
  have h' := (act_iff m t).mp h
  rw [nOf_eq] at h'
  have e := expert_eq m hn t
  have e' : (⟨(min (t : ℤ) ((na m).toInt - 1)).toNat, by have : (t : ℕ) < 316 := t.isLt; omega⟩ : Fin 316) = t := Fin.ext (by show (min (t : ℤ) ((na m).toInt - 1)).toNat = t; omega)
  rw [e'] at e
  refine Fin.ext ?_
  show (expert m t).toNat = min (tbl₀ m (ix1 (n0 := 316) t)).toInt.toNat 31
  rw [e]
  have hb := ha t
  rw [BitVec.toInt_eq_toNat_cond] at hb ⊢
  split at hb <;> rename_i hc <;> simp only [hc, if_true, if_false] <;> omega

include ha hn in
theorem leaves_at (t : Fin grid0.N) (r : Fin 512) (j : Fin 1024) (p : Fin 161792) (hp : (p : ℕ) = 512 * t + r) :
    (leaves m hok 0 t (ix2 r j) : EReal) = spec (tbl₀ m) (na m) (m ((0 : Dev nD).tc.loc main_arg2)) (m ((0 : Dev nD).tc.loc main_arg3)) (m ((0 : Dev nD).tc.loc main_arg4))
      (m ((0 : Dev nD).tc.loc main_arg5)) (m ((0 : Dev nD).tc.loc main_arg6)) p j := by
  have hpt : (p : ℕ) / 512 = t := by omega
  have hiff := act_iff m t
  rw [nOf_eq] at hiff
  have e : (⟨(p : ℕ) / 512, by omega⟩ : Fin 316) = t := Fin.ext hpt
  unfold leaves spec
  by_cases h : act m t
  · rw [if_pos h, if_pos (by rw [hpt]; exact hiff.mp h), e, ← ex_eq m ha hn hok t h]
    refine (outOf_at _ _ _ _ _ r j).trans ?_
    refine moe_congr (fun k => ?_) (fun k f => ?_) (fun f => ?_) (fun f => ?_) ?_
    · exact congrArg (fun w => num w k) (funext fun q => (x_at m hn hok 0 t h r q p hp).trans (congrFun (V_arg2 m 0) _))
    · exact (wu_at m hok 0 t k f).trans (congrFun (V_arg3 m 0) _)
    · exact (bu_at m hok 0 t f).trans (v12_at m 0 _ f)
    · exact (wd_at m hok 0 t f j).trans (congrFun (V_arg5 m 0) _)
    · exact (bd_at m hok 0 t j).trans (v13_at m 0 _ j)
  · rw [if_neg h, if_neg (by rw [hpt]; exact fun h' => h (hiff.mpr h'))]
    pointwise [k0_pay2]

/-- The place of a point's output block, and that each is written back. -/
theorem place (t : Fin grid0.N) : ((cfgT m hok).win 5).index t = ![(t : ℕ), 0] :=
  congrArg (fun n => ![n, 0]) (by
    show (BitVec.ofNat 32 (grid0.coords t 0).val).toNat = t
    rw [coords_val, BitVec.toNat_ofNat]
    have : (t : ℕ) < 316 := t.isLt
    omega)

theorem flush_all (t : Fin grid0.N) : ((cfgT m hok).win 5).flush t = true := by
  have ht : (t : ℕ) < 316 := t.isLt
  unfold Pipeline.Window.flush
  rw [Bool.and_eq_true, Bool.or_eq_true, decide_eq_true_eq, decide_eq_true_eq]
  refine ⟨rfl, ?_⟩
  by_cases h : (t : ℕ) + 1 = 316
  · exact .inl h
  · refine .inr ⟨show (t : ℕ) + 1 < 316 by omega, fun e => ?_⟩
    rw [place, place] at e
    have e0 : (t : ℕ) + 1 = t := congrFun e (0 : Fin 2)
    omega

theorem covers : ((cfgT m hok).win 5).Covers := by
  refine ⟨fun a => ?_, fun β => ?_⟩
  · have h : ∀ a : Fin 2, 0 < S512x1024.size a := by decide
    exact h a
  · have h0 : (β (0 : Fin 2)).val < 316 := Nat.lt_of_lt_of_eq (β (0 : Fin 2)).isLt (show (161792 + 512 - 1) / 512 = 316 by norm_num)
    have h1 : (β (1 : Fin 2)).val < 1 := Nat.lt_of_lt_of_eq (β (1 : Fin 2)).isLt (show (1024 + 1024 - 1) / 1024 = 1 by norm_num)
    refine ⟨⟨(β (0 : Fin 2)).val, h0⟩, flush_all m hok _, fun a => ⟨?_, .inl rfl⟩⟩
    rw [place]
    match a with
    | ⟨0, _⟩ => rfl
    | ⟨1, _⟩ => exact (Nat.lt_one_iff.mp h1).symm

include ha hn in
/-- The result array after the run. -/
theorem final : (dats m hok 0 0).arrAt 5 (cfgT m hok).N = fun z : S161792x1024.Idx => spec (tbl₀ m) (na m) (m ((0 : Dev nD).tc.loc main_arg2)) (m ((0 : Dev nD).tc.loc main_arg3)) (m ((0 : Dev nD).tc.loc main_arg4))
      (m ((0 : Dev nD).tc.loc main_arg5)) (m ((0 : Dev nD).tc.loc main_arg6)) (z 0) (z 1) := by
  refine (dats m hok 0 0).arrAt_eq_of_covers 5 _ (covers m hok) fun t hf y => ?_
  have e := place m hok t
  blk_simp
  rw [after_5]
  have key (p : Fin 161792) (j : Fin 1024) (z : S512x1024.Idx) (hp : (p : ℕ) = 512 * (t : ℕ) + z 0) (hj : (j : ℕ) = z 1) :
      (leaves m hok 0 t z : EReal) = spec (tbl₀ m) (na m) (m ((0 : Dev nD).tc.loc main_arg2)) (m ((0 : Dev nD).tc.loc main_arg3)) (m ((0 : Dev nD).tc.loc main_arg4))
        (m ((0 : Dev nD).tc.loc main_arg5)) (m ((0 : Dev nD).tc.loc main_arg6)) p j := by
    refine (congrArg (leaves m hok 0 t) (eq_ix2 (n0 := 512) (n1 := 1024) z)).trans ?_
    rw [show j = z 1 from Fin.ext hj]
    exact leaves_at m ha hn hok t (z 0) (z 1) p hp
  refine key _ _ y ?_ ?_
  · blk_simp [e]; omega
  · blk_simp [e]

end Cert.Kernel3Ideal.Experts

end
-- ==== Proof.ExpertsRef.lean ====
/- The experts' reference: what its result holds, entry by entry. -/
module

public import proofs.«01_k».proof.Proof.Gen.Reference3Ideal.Run
public import proofs.«01_k».proof.Proof.Gen.Kernel3
public import proofs.«01_k».proof.Proof.ExpertsArr

@[expose] public section

set_option maxRecDepth 16384

noncomputable section

namespace Cert.Reference3Ideal.Read
open Cert.Reference3Ideal Cert.Reference3Ideal.Gen Cert.Reference3Ideal.Value Idealize.ShloMosaic Idealize.ShloMosaic.TcCoe Idealize.SL.Sem
open Idealize.ShloMosaic.StableHlo
open Cert.Kernel3Ideal.Experts (pick spec moe num unit_ up)

/-- An expert's weights and biases, gathered for every block. -/
theorem wu_gather (x : FVec Ideal S32x1024x2048 .f32) (i : IVec S316x1 32) (t : Fin 316) (k : Fin 1024) (f : Fin 2048) :
    Host.gather gather_S32x1024x2048_S316x1_S316x1024x2048_12_0_n_n_0_1_110242048 x i (ix3 t k f) = x (ix3 (pick (i (ix2 t 0))) k f) := by
  unfold Host.gather
  refine congrArg x (funext fun a => Fin.ext ?_)
  have hs : gather_S32x1024x2048_S316x1_S316x1024x2048_12_0_n_n_0_1_110242048.siIdx (ix3 t k f) ⟨0, by decide⟩ = ix2 t (0 : Fin 1) := by
    funext b
    match b with
    | ⟨0, _⟩ => rfl
    | ⟨1, _⟩ => rfl
  match a with
  | ⟨0, _⟩ =>
    show min (i (gather_S32x1024x2048_S316x1_S316x1024x2048_12_0_n_n_0_1_110242048.siIdx (ix3 t k f) ⟨0, by decide⟩)).toInt.toNat 31 + 0 + 0 = _
    rw [hs]
    rfl
  | ⟨1, _⟩ =>
    show 0 + 0 + (k : ℕ) = k
    omega
  | ⟨2, _⟩ =>
    show 0 + 0 + (f : ℕ) = f
    omega

theorem wd_gather (x : FVec Ideal S32x1024x1024 .f32) (i : IVec S316x1 32) (t : Fin 316) (k f : Fin 1024) :
    Host.gather gather_S32x1024x1024_S316x1_S316x1024x1024_12_0_n_n_0_1_110241024 x i (ix3 t k f) = x (ix3 (pick (i (ix2 t 0))) k f) := by
  unfold Host.gather
  refine congrArg x (funext fun a => Fin.ext ?_)
  have hs : gather_S32x1024x1024_S316x1_S316x1024x1024_12_0_n_n_0_1_110241024.siIdx (ix3 t k f) ⟨0, by decide⟩ = ix2 t (0 : Fin 1) := by
    funext b
    match b with
    | ⟨0, _⟩ => rfl
    | ⟨1, _⟩ => rfl
  match a with
  | ⟨0, _⟩ =>
    show min (i (gather_S32x1024x1024_S316x1_S316x1024x1024_12_0_n_n_0_1_110241024.siIdx (ix3 t k f) ⟨0, by decide⟩)).toInt.toNat 31 + 0 + 0 = _
    rw [hs]
    rfl
  | ⟨1, _⟩ =>
    show 0 + 0 + (k : ℕ) = k
    omega
  | ⟨2, _⟩ =>
    show 0 + 0 + (f : ℕ) = f
    omega

theorem bu_gather (x : FVec Ideal S32x2048 .f32) (i : IVec S316x1 32) (t : Fin 316) (f : Fin 2048) :
    Host.gather gather_S32x2048_S316x1_S316x2048_1_0_n_n_0_1_12048 x i (ix2 t f) = x (ix2 (pick (i (ix2 t 0))) f) := by
  unfold Host.gather
  refine congrArg x (funext fun a => Fin.ext ?_)
  have hs : gather_S32x2048_S316x1_S316x2048_1_0_n_n_0_1_12048.siIdx (ix2 t f) ⟨0, by decide⟩ = ix2 t (0 : Fin 1) := by
    funext b
    match b with
    | ⟨0, _⟩ => rfl
    | ⟨1, _⟩ => rfl
  match a with
  | ⟨0, _⟩ =>
    show min (i (gather_S32x2048_S316x1_S316x2048_1_0_n_n_0_1_12048.siIdx (ix2 t f) ⟨0, by decide⟩)).toInt.toNat 31 + 0 + 0 = _
    rw [hs]
    rfl
  | ⟨1, _⟩ =>
    show 0 + 0 + (f : ℕ) = f
    omega

theorem bd_gather (x : FVec Ideal S32x1024 .f32) (i : IVec S316x1 32) (t : Fin 316) (f : Fin 1024) :
    Host.gather gather_S32x1024_S316x1_S316x1024_1_0_n_n_0_1_11024 x i (ix2 t f) = x (ix2 (pick (i (ix2 t 0))) f) := by
  unfold Host.gather
  refine congrArg x (funext fun a => Fin.ext ?_)
  have hs : gather_S32x1024_S316x1_S316x1024_1_0_n_n_0_1_11024.siIdx (ix2 t f) ⟨0, by decide⟩ = ix2 t (0 : Fin 1) := by
    funext b
    match b with
    | ⟨0, _⟩ => rfl
    | ⟨1, _⟩ => rfl
  match a with
  | ⟨0, _⟩ =>
    show min (i (gather_S32x1024_S316x1_S316x1024_1_0_n_n_0_1_11024.siIdx (ix2 t f) ⟨0, by decide⟩)).toInt.toNat 31 + 0 + 0 = _
    rw [hs]
    rfl
  | ⟨1, _⟩ =>
    show 0 + 0 + (f : ℕ) = f
    omega

/-- The experts' table as the gathers' indices. -/
def idx (a : IVec S316 32) : IVec S316x1 32 :=
  broadcastInDim S316x1 ![0] bcast_S316_S316x1_0 (select (cmpi .slt a (broadcastInDim S316 ![] bcast_S_S316 (constantI S_ 32 0#32))) (addi a (broadcastInDim S316 ![] bcast_S_S316 (constantI S_ 32 32#32))) a)

/-- The numbers of the rows' packed words. -/
def rows (x : IVec S161792x512 32) : FVec Ideal S161792x1024 .f32 :=
  bitcastToFloat (F := Ideal) .f32 (Host.shli (concatenate S161792x1024 1 [⟨S161792x512, (Host.shrui x (broadcastInDim S161792x512 ![] bcast_S_S161792x512 (constantI S_ 32 16#32)))⟩,
    ⟨S161792x512, (andi x (broadcastInDim S161792x512 ![] bcast_S_S161792x512 (constantI S_ 32 65535#32)))⟩] concatenates_S161792x512_S161792x512_S161792x1024_d1) (broadcastInDim S161792x1024 ![] bcast_S_S161792x1024 (constantI S_ 32 16#32)))

/-- The first projection of every block. -/
def hid (a : IVec S316 32) (x : IVec S161792x512 32) (u : FVec Ideal S32x1024x2048 .f32) (bu : FVec Ideal S32x2048 .f32) : FVec Ideal S316x512x2048 .f32 :=
  addf (Host.dotGeneral dot_S316x512x1024_S316x1024x2048_S316x512x2048_2_1_1_2_0_0 none (shapeCast _ (rows x) shapeCasts_S161792x1024_S316x512x1024) (Host.gather gather_S32x1024x2048_S316x1_S316x1024x2048_12_0_n_n_0_1_110242048 u (idx a)))
    (broadcastInDim S316x512x2048 ![0, 1, 2] bcast_S316x1x2048_S316x512x2048_0_1_2 (broadcastInDim S316x1x2048 ![0, 2] bcast_S316x2048_S316x1x2048_0_2 (Host.gather gather_S32x2048_S316x1_S316x2048_1_0_n_n_0_1_12048 bu (idx a))))

/-- The gated units of every block. -/
def gated (h : FVec Ideal S316x512x2048 .f32) : FVec Ideal S316x512x1024 .f32 :=
  mulf (mulf (minimumf (extractStridedSlice S316x512x1024 ![0, 0, 0] h slices_S316x512x2048_S316x512x1024_0_0_0) (broadcastInDim S316x512x1024 ![] bcast_S_S316x512x1024 (constant S_ .f32 0x40E00000#32)))
    (Host.divf (broadcastInDim S316x512x1024 ![] bcast_S_S316x512x1024 (constant S_ .f32 0x3F800000#32)) (addf (broadcastInDim S316x512x1024 ![] bcast_S_S316x512x1024 (constant S_ .f32 0x3F800000#32)) (Host.exp (Host.negf (mulf (broadcastInDim S316x512x1024 ![] bcast_S_S316x512x1024 (constant S_ .f32 0x3FD9DB23#32)) (minimumf (extractStridedSlice S316x512x1024 ![0, 0, 0] h slices_S316x512x2048_S316x512x1024_0_0_0) (broadcastInDim S316x512x1024 ![] bcast_S_S316x512x1024 (constant S_ .f32 0x40E00000#32)))))))))
    (addf (minimumf (broadcastInDim S316x512x1024 ![] bcast_S_S316x512x1024 (id (constant S_ .f32 0x40E00000#32))) (maximumf (broadcastInDim S316x512x1024 ![] bcast_S_S316x512x1024 (id (constant S_ .f32 0xC0E00000#32))) (extractStridedSlice S316x512x1024 ![0, 0, 1024] h slices_S316x512x2048_S316x512x1024_0_0_1024)))
      (broadcastInDim S316x512x1024 ![] bcast_S_S316x512x1024 (constant S_ .f32 0x3F800000#32)))

/-- The result, of the gated units. -/
def outs (a : IVec S316 32) (n : IVec S1 32) (g : FVec Ideal S316x512x1024 .f32) (d : FVec Ideal S32x1024x1024 .f32) (bd : FVec Ideal S32x1024 .f32) : FVec Ideal S161792x1024 .bf16 :=
  truncf .bf16 (shapeCast _ (select (broadcastInDim S316x512x1024 ![0, 1, 2] bcast_S316x1x1_S316x512x1024_0_1_2 (broadcastInDim S316x1x1 ![0] bcast_S316_S316x1x1_0 (cmpi .slt (iotaInDim S316 32 0) (broadcastInDim S316 ![] bcast_S_S316 (shapeCast _ n shapeCasts_S1_S_)))))
    (addf (Host.dotGeneral dot_S316x512x1024_S316x1024x1024_S316x512x1024_2_1_1_2_0_0 none g (Host.gather gather_S32x1024x1024_S316x1_S316x1024x1024_12_0_n_n_0_1_110241024 d (idx a)))
      (broadcastInDim S316x512x1024 ![0, 1, 2] bcast_S316x1x1024_S316x512x1024_0_1_2 (broadcastInDim S316x1x1024 ![0, 2] bcast_S316x1024_S316x1x1024_0_2 (Host.gather gather_S32x1024_S316x1_S316x1024_1_0_n_n_0_1_11024 bd (idx a)))))
    (broadcastInDim S316x512x1024 ![] bcast_S_S316x512x1024 (id (constant S_ .f32 0x00000000#32)))) shapeCasts_S316x512x1024_S161792x1024) bitsLt_bf16_f32

theorem idx_at (a : IVec S316 32) (t : Fin 316) (ha : 0 ≤ (a (ix1 t)).toInt) : idx a (ix2 t 0) = a (ix1 t) := by
  have h : IntOp.cmpi .slt (a (ix1 t)) 0#32 = 0#1 := by
    show BitVec.ofBool (BitVec.slt (a (ix1 t)) 0#32) = 0#1
    rw [show BitVec.slt (a (ix1 t)) 0#32 = false by rw [BitVec.slt_eq_decide]; simp; omega]
    rfl
  pointwise [idx]
  rw [h]
  rfl

theorem upper_half (w : BitVec 32) : (w >>> 16) <<< 16 = w &&& 0xFFFF0000#32 := by
  ext i hi
  interval_cases i <;> simp

theorem lower_half (w : BitVec 32) : (w &&& 65535#32) <<< 16 = w <<< 16 := by
  ext i hi
  interval_cases i <;> simp

theorem rows_at (x : IVec S161792x512 32) (p : Fin 161792) (k : Fin 1024) : (rows x (ix2 p k) : EReal) = num (fun q => x (ix2 p q)) k := by
  unfold num
  split
  · rename_i h
    rw [← upper_half]
    pointwise [rows]
    rw [dif_pos h]
    rfl
  · rename_i h
    rw [← lower_half]
    pointwise [rows]
    rw [dif_neg h]
    rfl

theorem hid_at (a : IVec S316 32) (x : IVec S161792x512 32) (u : FVec Ideal S32x1024x2048 .f32) (bu : FVec Ideal S32x2048 .f32) (t : Fin 316) (r : Fin 512) (f : Fin 2048)
    (ha : 0 ≤ (a (ix1 t)).toInt) : (hid a x u bu (ix3 t r f) : EReal)
      = up (num fun k => x (ix2 ⟨t * 512 + r, by omega⟩ k)) (fun k => u (ix3 (pick (a (ix1 t))) k f)) (bu (ix2 (pick (a (ix1 t))) f)) := by
  pointwise [hid]
  simp only [wu_gather, bu_gather, idx_at a t ha, rows_at, up]

theorem gated_at (h : FVec Ideal S316x512x2048 .f32) (t : Fin 316) (r : Fin 512) (f : Fin 1024) :
    (gated h (ix3 t r f) : EReal) = unit_ (h (ix3 t r ⟨f, by omega⟩)) (h (ix3 t r ⟨1024 + f, by omega⟩)) := by
  pointwise [gated, unit_, Ideal.logistic]
  rfl

theorem outs_at (a : IVec S316 32) (n : IVec S1 32) (g : FVec Ideal S316x512x1024 .f32) (d : FVec Ideal S32x1024x1024 .f32) (bd : FVec Ideal S32x1024 .f32) (p : Fin 161792) (j : Fin 1024)
    (ha : 0 ≤ (a (ix1 ⟨p / 512, by omega⟩)).toInt) : (outs a n g d bd (ix2 p j) : EReal)
      = if (((p : ℕ) / 512 : ℕ) : ℤ) < (n (ix1 (0 : Fin 1))).toInt then
          (∑ f : Fin 1024, g (ix3 ⟨p / 512, by omega⟩ ⟨p % 512, by omega⟩ f) * d (ix3 (pick (a (ix1 ⟨p / 512, by omega⟩))) f j)) + bd (ix2 (pick (a (ix1 ⟨p / 512, by omega⟩))) j)
        else 0 := by
  pointwise [outs]
  simp only [wd_gather, bd_gather, idx_at a _ ha]
  have ht : (p : ℕ) / 512 < 316 := by omega
  have hc : BitVec.slt (BitVec.ofNat 32 ((p : ℕ) / 512)) (n (ix1 0)) = decide ((((p : ℕ) / 512 : ℕ) : ℤ) < (n (ix1 (0 : Fin 1))).toInt) := by
    rw [BitVec.slt_eq_decide, BitVec.toInt_ofNat', Int.bmod_eq_of_le (by omega) (by omega)]
  have hs : IntOp.cmpi .slt (BitVec.ofNat 32 ((p : ℕ) / 512)) (n (ix1 0)) = BitVec.ofBool (decide ((((p : ℕ) / 512 : ℕ) : ℤ) < (n (ix1 (0 : Fin 1))).toInt)) := congrArg BitVec.ofBool hc
  rw [hs]
  split
  · rename_i h
    rw [decide_eq_true h]
    rfl
  · rename_i h
    rw [decide_eq_false h]
    show Ideal.ofBits .f32 0x00000000#32 = 0
    simp [Ideal.ofBits, Ideal.ieee]

variable (m : (ℓ : Loc nD τ sig) → Buf (Elt Ideal) ℓ)

abbrev res (c : Dev nD) : S161792x1024.Idx → EReal := res_main_v69 m c

theorem res_eq (c : Dev nD) : res m c = outs (m ((c : Thread nD τ).loc main_arg0)) (m ((c : Thread nD τ).loc main_arg1)) (gated (hid (m ((c : Thread nD τ).loc main_arg0)) (m ((c : Thread nD τ).loc main_arg2)) (m ((c : Thread nD τ).loc main_arg3))
      (m ((c : Thread nD τ).loc main_arg4)))) (m ((c : Thread nD τ).loc main_arg5)) (m ((c : Thread nD τ).loc main_arg6)) := by
  unfold res res_main_v69 outs gated hid rows idx
  rfl

theorem res_at (c : Dev nD) (ha : ∀ i : Fin 316, 0 ≤ (m ((c : Thread nD τ).loc main_arg0) (ix1 i) : BitVec 32).toInt) (p : Fin 161792) (j : Fin 1024) :
    res m c (ix2 p j) = spec (m ((c : Thread nD τ).loc main_arg0)) (m ((c : Thread nD τ).loc main_arg1) (ix1 (0 : Fin 1))) (m ((c : Thread nD τ).loc main_arg2)) (m ((c : Thread nD τ).loc main_arg3))
      (m ((c : Thread nD τ).loc main_arg4)) (m ((c : Thread nD τ).loc main_arg5)) (m ((c : Thread nD τ).loc main_arg6)) p j := by
  rw [res_eq]
  refine (outs_at _ _ _ _ _ p j (ha _)).trans ?_
  unfold spec moe
  split
  · refine congrArg₂ (fun x y : EReal => x + y) (Finset.sum_congr rfl fun f _ => congrArg₂ (fun x y : EReal => x * y) ?_ rfl) rfl
    rw [gated_at, hid_at _ _ _ _ _ _ _ (ha _), hid_at _ _ _ _ _ _ _ (ha _)]
    have e : (⟨(p : ℕ) / 512 * 512 + (p : ℕ) % 512, by omega⟩ : Fin 161792) = p := Fin.ext (by show (p : ℕ) / 512 * 512 + (p : ℕ) % 512 = p; omega)
    simp only [e]
  · rfl

end Cert.Reference3Ideal.Read
end
-- ==== Proof.ExpertsSame.lean ====
/- The experts' kernel at the machine's floats and at the ideal ones is one program, printed twice: its kernels' table,
   its launches and its host agree, so a run of the one is a run of the other. -/
module

public import proofs.«01_k».proof.Proof.Gen.Kernel3
public import proofs.«01_k».proof.Proof.ExpertsRun

@[expose] public section

noncomputable section

namespace Cert.Kernel3Ideal.Experts

open Idealize.ShloMosaic Idealize.SL.Sem

variable {F : FTy → Type} [FloatOps F]

attribute [local instance] Cert.Kernel3.Gen.facts Cert.Kernel3Ideal.Gen.facts

/-- The two tables of kernel functions agree, function by function. -/
theorem table_eq : Cert.Kernel3.defs₀ (F := F) = Cert.Kernel3Ideal.defs₀ (F := F) := by
  refine congrArg Defs.onTc (funext fun l => funext fun x => ?_)
  match l, x with
  | 0, (t, s) => rfl

/-- So do the tables with the launch. -/
theorem defs_eq : Cert.Kernel3.defs (F := F) = Cert.Kernel3Ideal.defs (F := F) :=
  congrArg (Pipeline.defs (Cert.Kernel3.pcfgs (F := F))) table_eq

set_option maxHeartbeats 2000000 in
/-- The two hosts are the same statements. -/
theorem main_eq : Cert.Kernel3.main (F := F) = Cert.Kernel3Ideal.main (F := F) := rfl

set_option maxHeartbeats 2000000 in
/-- What holds of a run of the ideal program's text holds of a run of the machine program's. -/
theorem run_same (σ) (Q) (h : θ_run (Cert.Kernel3Ideal.defs (F := F)) (onTc (τ := Cert.Kernel3Ideal.τ) (Cert.Kernel3Ideal.main (F := F))) σ Q) :
    θ_run (Cert.Kernel3.defs (F := F)) (onTc (τ := Cert.Kernel3.τ) (Cert.Kernel3.main (F := F))) σ Q :=
  (congrArg₂ (fun D M => θ_run D (onTc (τ := Cert.Kernel3.τ) M) σ Q) (defs_eq (F := F)) (main_eq (F := F))).mpr h

end Cert.Kernel3Ideal.Experts

end
-- ==== Proof.Tile.lean ====
module

public import proofs.«01_k».proof.Proof.Gen.KernelIdeal.Value
public import Idealize.ShloMosaic.Lib.Pipeline.ValueKit
public import Idealize.ShloMosaic.Lib.Pointwise

@[expose] public section

set_option maxRecDepth 16384
noncomputable section

namespace Cert.KernelIdeal.Tile
open Cert.KernelIdeal Cert.KernelIdeal.Gen Idealize.ShloMosaic Idealize.ShloMosaic.TcCoe Idealize.SL.Sem
open Idealize.ShloMosaic.Pipeline (Dat)

/-- The scores of one 256-row tile of queries against its 768 keys: products plus the position bias. -/
def scores (q : Vec Ideal S256x64 .bf16) (k : Vec Ideal S768x64 .bf16) (b : Vec Ideal S1x256x768 .f32) :
    FVec Ideal S256x768 .f32 :=
  addf (matmul (F := Ideal) (φ₁ := .bf16) (φ₂ := .bf16) dot_S256x64_S768x64_S256x768_1_1_0_0_n_n none q k (constant S256x768 .f32 0x00000000#32))
    (shapeCast S256x768 b shapeCasts_S1x256x768_S256x768)

/-- The mask of a sequence's first rows: minus infinity at the first `n` key columns of the first block. -/
def mask (n i : BitVec 32) : FVec Ideal S1x768 .f32 :=
  select (andi (cmpi .slt (iota .tc S1x768 32 [1] iota_S1x768_d1_w32) (broadcast S1x768 n))
      (broadcast S1x768 (Scalar.cmpi .eq i 0#32)))
    (broadcast S1x768 (Named.named (F := Ideal) κ "mask" (φ := .f32) 0xF149F2CA#32)) (broadcast S1x768 (Scalar.ofBits .f32 0x00000000#32))

/-- The scores with that mask added. -/
def masked (s : FVec Ideal S256x768 .f32) (n i : BitVec 32) : FVec Ideal S256x768 .f32 :=
  addf s (broadcastTo S256x768 (mask n i) broadcasts_S1x768_S256x768)

/-- The exponentials of the scores times the 128 lanes of values and ones. -/
def ext (s : FVec Ideal S256x768 .f32) (v : Vec Ideal S1x768x128 .bf16) : FVec Ideal S256x128 .f32 :=
  matmul (F := Ideal) (φ₁ := .bf16) (φ₂ := .bf16) dot_S256x768_S768x128_S256x128_1_0_0_1_n_n none
    (truncf .bf16 (exp (subf s (broadcastTo S256x768 (shapeCast S256x1
      (multiReduction .maximumf [1] S256 s 0xFF800000#32 reduces_S256x768_S256 (.inl rfl) rfl)
      shapeCasts_S256_S256x1) broadcasts_S256x1_S256x768))) bitsLt_bf16_f32)
    (shapeCast S768x128 v shapeCasts_S1x768x128_S768x128) (constant S256x128 .f32 0x00000000#32)

/-- The tile's output: each head's values divided by its own ones, the two heads side by side. -/
def merge (e0 e1 : FVec Ideal S256x128 .f32) : FVec Ideal S256x128 .bf16 :=
  truncf .bf16 (select (broadcastTo S256x128 (shapeCast S1x128 (cmpi .eq k0_pay3 (broadcast S1x128 0#32)) shapeCasts_S1x128_S1x128)
      broadcasts_S1x128_S256x128)
    (divf e0 (dynamicRotate 1 64#32 none e0 rotates_S256x128_d1))
    (divf e1 (dynamicRotate 1 64#32 none e1 rotates_S256x128_d1))) bitsLt_bf16_f32

/-- A named minus infinity is minus infinity. -/
theorem mask_bot : Named.named (F := Ideal) κ "mask" (φ := .f32) 0xF149F2CA#32 = (⊥ : EReal) :=
  IdealRules.named_const.ideal_named_scalar _ "mask" (φ := .f32) _ _ rfl

/-- The pattern of f32's minus infinity. -/
theorem neg_inf : Ideal.ofBits .f32 0xFF800000#32 = (⊥ : EReal) := by simp [Ideal.ofBits, Ideal.ieee]

/-- A row's exponentials: of the score less the row's maximum. -/
def pexp (s : Fin 768 → EReal) (j : Fin 768) : EReal := Ideal.exp (s j - Finset.univ.sup s)

/-- A row's result at one lane: its values weighted by the exponentials, over the exponentials' sum. -/
def att (s v : Fin 768 → EReal) : EReal := Ideal.div (∑ j, pexp s j * v j) (∑ j, pexp s j)

/-- Row `n` of the halo followed by the block. -/
def cat (P : Vec Ideal S512x128 .bf16) (C : Vec Ideal S4096x128 .bf16) (n : ℕ) (l : Fin 128) : EReal :=
  if h : n < 512 then P (ix2 ⟨n, h⟩ l) else C (ix2 ⟨(n - 512) % 4096, Nat.mod_lt _ (by decide)⟩ l)

/-- Lane `d` of head `h`. -/
abbrev lane (h : Fin 2) (d : Fin 64) : Fin 128 := ⟨64 * h + d, by omega⟩

/-- The masked score of query row `r` of the block against key column `j` of its tile. -/
def score (Q : Vec Ideal S4096x128 .bf16) (KP : Vec Ideal S512x128 .bf16) (KC : Vec Ideal S4096x128 .bf16)
    (B : Vec Ideal S2x256x768 .f32) (i : BitVec 32) (h : Fin 2) (r : Fin 4096) (j : Fin 768) : EReal :=
  ((∑ d : Fin 64, Q (ix2 r (lane h d)) * cat KP KC (256 * (r / 256) + j) (lane h d))
    + B (ix3 h ⟨r % 256, Nat.mod_lt _ (by decide)⟩ j))
    + if 256 * ((r : ℕ) / 256) + j < 512 ∧ i = 0 then ⊥ else 0

/-- The block's result at a row and a lane. -/
def block (Q : Vec Ideal S4096x128 .bf16) (KP : Vec Ideal S512x128 .bf16) (KC : Vec Ideal S4096x128 .bf16)
    (VP : Vec Ideal S512x128 .bf16) (VC : Vec Ideal S4096x128 .bf16)
    (B : Vec Ideal S2x256x768 .f32) (i : BitVec 32) (r : Fin 4096) (l : Fin 128) : EReal :=
  att (score Q KP KC B i ⟨l / 64, by omega⟩ r) (fun j => cat VP VC (256 * (r / 256) + j) l)

theorem scores_at (q : Vec Ideal S256x64 .bf16) (k : Vec Ideal S768x64 .bf16) (b : Vec Ideal S1x256x768 .f32)
    (r : Fin 256) (j : Fin 768) :
    scores q k b (ix2 r j) = (∑ d : Fin 64, q (ix2 r d) * k (ix2 j d)) + b (ix3 0 r j) := by
  pointwise [scores]

theorem fold_max_bot {n : ℕ} (s : Fin n → EReal) : Finset.fold max ⊥ s Finset.univ = Finset.univ.sup s := rfl

theorem ext_at (s : FVec Ideal S256x768 .f32) (v : Vec Ideal S1x768x128 .bf16) (r : Fin 256) (l : Fin 128) :
    ext s v (ix2 r l) = ∑ j : Fin 768, pexp (fun j => s (ix2 r j)) j * v (ix3 0 j l) := by
  pointwise [ext]
  simp only [neg_inf, fold_max_bot, pexp]

theorem cmp_lt : ∀ n ∈ ({256, 512} : Finset ℕ), ∀ j : Fin 768,
    (IntOp.cmpi .slt (BitVec.ofNat 32 j) (BitVec.ofNat 32 n) = 1#1 ↔ (j : ℕ) < n) := by
  decide +kernel

theorem masked_at (s : FVec Ideal S256x768 .f32) (n : ℕ) (hn : n ∈ ({256, 512} : Finset ℕ)) (i : BitVec 32) (r : Fin 256) (j : Fin 768) :
    masked s (BitVec.ofNat 32 n) i (ix2 r j) = s (ix2 r j) + if (j : ℕ) < n ∧ i = 0 then ⊥ else 0 := by
  pointwise [masked, mask]
  rw [mask_bot]
  refine congrArg (s (ix2 r j) + ·) ?_
  have hb : ∀ a : BitVec 1, a = 1#1 ∨ a = 0#1 := by decide
  have hc := cmp_lt n hn j
  have hi : Scalar.cmpi .eq i 0#32 = 1#1 ↔ i = 0 := by
    by_cases h : i = 0
    · simp [Scalar.cmpi, IntOp.cmpi, h]
    · have h' : (i == 0#32) = false := by simpa using h
      simpa [Scalar.cmpi, IntOp.cmpi, h'] using h
  refine Eq.trans ?_ (if_congr (and_congr hc hi) rfl rfl)
  rcases hb (IntOp.cmpi .slt (BitVec.ofNat 32 j) (BitVec.ofNat 32 n)) with h | h <;>
    rcases hb (Scalar.cmpi .eq i 0#32) with h' | h' <;> rw [h, h'] <;> simp <;> rfl

theorem lane_head : ∀ l : Fin 128, IntOp.cmpi .eq (IntOp.shrsi ArithUnit.vector (BitVec.ofNat 32 l) 6#32) 0#32
    = if (l : ℕ) < 64 then 1#1 else 0#1 := by decide +kernel

theorem merge_at (e0 e1 : FVec Ideal S256x128 .f32) (r : Fin 256) (l : Fin 128) :
    merge e0 e1 (ix2 r l) = if (l : ℕ) < 64 then Ideal.div (e0 (ix2 r l)) (e0 (ix2 r ⟨(l + 128 - 64) % 128, Nat.mod_lt _ (by decide)⟩))
      else Ideal.div (e1 (ix2 r l)) (e1 (ix2 r ⟨(l + 128 - 64) % 128, Nat.mod_lt _ (by decide)⟩)) := by
  pointwise [merge, k0_pay3]
  rw [lane_head]
  split <;> rfl

theorem core (qs : Fin 16) (s0 s1 : FVec Ideal S256x768 .f32) (v0 v1 : Vec Ideal S1x768x128 .bf16)
    (Q : Vec Ideal S4096x128 .bf16) (KP : Vec Ideal S512x128 .bf16) (KC : Vec Ideal S4096x128 .bf16)
    (VP : Vec Ideal S512x128 .bf16) (VC : Vec Ideal S4096x128 .bf16)
    (B : Vec Ideal S2x256x768 .f32) (i : BitVec 32) (x0 : Fin 256) (x1 : Fin 128) (y0 : Fin 4096) (y1 : Fin 128)
    (h0 : (y0 : ℕ) = 256 * qs + x0) (h1 : (y1 : ℕ) = x1)
    (hs0 : ∀ (r : Fin 256) j, s0 (ix2 r j) = score Q KP KC B i 0 ⟨256 * qs + r, by omega⟩ j)
    (hs1 : ∀ (r : Fin 256) j, s1 (ix2 r j) = score Q KP KC B i 1 ⟨256 * qs + r, by omega⟩ j)
    (hv0 : ∀ j l, v0 (ix3 0 j l) = (if (l : ℕ) < 64 then cat VP VC (256 * qs + j) l else 1 : EReal))
    (hv1 : ∀ j l, v1 (ix3 0 j l) = (if (l : ℕ) < 64 then 1 else cat VP VC (256 * qs + j) l : EReal)) :
    merge (ext s0 v0) (ext s1 v1) (ix2 x0 x1) = block Q KP KC VP VC B i y0 y1 := by
  have e0 : y0 = (⟨256 * qs + x0, by omega⟩ : Fin 4096) := Fin.ext h0
  have e1 : y1 = x1 := Fin.ext h1
  have hp : 256 * (((⟨256 * qs + x0, by omega⟩ : Fin 4096) : ℕ) / 256) = 256 * qs := by
    show 256 * ((256 * (qs : ℕ) + x0) / 256) = 256 * qs
    omega
  rw [e0, e1, merge_at, ext_at, ext_at, ext_at, ext_at, block, att]
  simp only [hs0, hs1, hv0, hv1, hp]
  split
  · rename_i hl
    have hh : (⟨(x1 : ℕ) / 64, by omega⟩ : Fin 2) = 0 := Fin.ext (by show (x1 : ℕ) / 64 = 0; omega)
    have hr : ¬ ((x1 : ℕ) + 128 - 64) % 128 < 64 := by omega
    rw [hh]
    simp only [hr, if_false, mul_one]
  · rename_i hl
    have hh : (⟨(x1 : ℕ) / 64, by omega⟩ : Fin 2) = 1 := Fin.ext (by show (x1 : ℕ) / 64 = 1; omega)
    have hr : ((x1 : ℕ) + 128 - 64) % 128 < 64 := by omega
    rw [hh]
    simp only [hr, if_true, mul_one]

theorem score_of (qs : Fin 16) (hq2 : 2 ≤ (qs : ℕ)) (q : Vec Ideal S256x64 .bf16) (k : Vec Ideal S768x64 .bf16) (b : Vec Ideal S1x256x768 .f32)
    (Q : Vec Ideal S4096x128 .bf16) (KP : Vec Ideal S512x128 .bf16) (KC : Vec Ideal S4096x128 .bf16)
    (B : Vec Ideal S2x256x768 .f32) (i : BitVec 32) (h : Fin 2)
    (hq : ∀ (r : Fin 256) d, q (ix2 r d) = Q (ix2 ⟨256 * qs + r, by omega⟩ (lane h d)))
    (hk : ∀ (j : Fin 768) d, k (ix2 j d) = cat KP KC (256 * qs + j) (lane h d))
    (hb : ∀ r j, b (ix3 0 r j) = B (ix3 h r j)) (r : Fin 256) (j : Fin 768) :
    scores q k b (ix2 r j) = score Q KP KC B i h ⟨256 * qs + r, by omega⟩ j := by
  rw [scores_at, score]
  simp only [hq, hk, hb]
  have e1 : (256 * (qs : ℕ) + r) / 256 = qs := by omega
  have e2 : (256 * (qs : ℕ) + r) % 256 = r := by omega
  simp only [e1, e2]
  rw [if_neg (by omega), add_zero]

theorem masked_of (qs : Fin 16) (n : ℕ) (hn : n = 512 - 256 * qs) (hq2 : (qs : ℕ) < 2) (q : Vec Ideal S256x64 .bf16) (k : Vec Ideal S768x64 .bf16) (b : Vec Ideal S1x256x768 .f32)
    (Q : Vec Ideal S4096x128 .bf16) (KP : Vec Ideal S512x128 .bf16) (KC : Vec Ideal S4096x128 .bf16)
    (B : Vec Ideal S2x256x768 .f32) (i : BitVec 32) (h : Fin 2)
    (hq : ∀ (r : Fin 256) d, q (ix2 r d) = Q (ix2 ⟨256 * qs + r, by omega⟩ (lane h d)))
    (hk : ∀ (j : Fin 768) d, k (ix2 j d) = cat KP KC (256 * qs + j) (lane h d))
    (hb : ∀ r j, b (ix3 0 r j) = B (ix3 h r j)) (r : Fin 256) (j : Fin 768) :
    masked (scores q k b) (BitVec.ofNat 32 n) i (ix2 r j) = score Q KP KC B i h ⟨256 * qs + r, by omega⟩ j := by
  rw [masked_at _ _ (by have : (qs : ℕ) = 0 ∨ (qs : ℕ) = 1 := by omega
                        rcases this with h | h <;> simp [hn, h]), scores_at, score]
  simp only [hq, hk, hb]
  have e1 : (256 * (qs : ℕ) + r) / 256 = qs := by omega
  have e2 : (256 * (qs : ℕ) + r) % 256 = r := by omega
  have e3 : ((j : ℕ) < n ∧ i = 0) ↔ (256 * (qs : ℕ) + j < 512 ∧ i = 0) := by
    rw [hn]; constructor <;> rintro ⟨a, b⟩ <;> exact ⟨by omega, b⟩
  simp only [e1, e2, e3]

/-- One tile's store, element by element. -/
theorem tile_of (qs : Fin 16) (o : ℕ) (ho : o = 256 * qs) (hq2 : 2 ≤ (qs : ℕ))
    (q0 : Vec Ideal S256x64 .bf16) (k0 : Vec Ideal S768x64 .bf16) (b0 : Vec Ideal S1x256x768 .f32) (v0 : Vec Ideal S1x768x128 .bf16)
    (q1 : Vec Ideal S256x64 .bf16) (k1 : Vec Ideal S768x64 .bf16) (b1 : Vec Ideal S1x256x768 .f32) (v1 : Vec Ideal S1x768x128 .bf16)
    (Q : Vec Ideal S4096x128 .bf16) (KP : Vec Ideal S512x128 .bf16) (KC : Vec Ideal S4096x128 .bf16)
    (VP : Vec Ideal S512x128 .bf16) (VC : Vec Ideal S4096x128 .bf16) (B : Vec Ideal S2x256x768 .f32) (i : BitVec 32)
    (x : S256x128.Idx) (y : S4096x128.Idx) (h0 : (y 0 : ℕ) = o + x 0) (h1 : (y 1 : ℕ) = x 1)
    (hq0 : ∀ (r : Fin 256) d, q0 (ix2 r d) = Q (ix2 ⟨o + r, by omega⟩ ⟨0 + d, by omega⟩))
    (hk0 : ∀ (j : Fin 768) d, k0 (ix2 j d) = cat KP KC (o + j) ⟨0 + d, by omega⟩)
    (hb0 : ∀ r j, b0 (ix3 0 r j) = B (ix3 0 r j))
    (hq1 : ∀ (r : Fin 256) d, q1 (ix2 r d) = Q (ix2 ⟨o + r, by omega⟩ ⟨64 + d, by omega⟩))
    (hk1 : ∀ (j : Fin 768) d, k1 (ix2 j d) = cat KP KC (o + j) ⟨64 + d, by omega⟩)
    (hb1 : ∀ r j, b1 (ix3 0 r j) = B (ix3 1 r j))
    (hv0 : ∀ j l, v0 (ix3 0 j l) = (if (l : ℕ) < 64 then cat VP VC (o + j) l else 1 : EReal))
    (hv1 : ∀ j l, v1 (ix3 0 j l) = (if (l : ℕ) < 64 then 1 else cat VP VC (o + j) l : EReal)) :
    merge (ext (scores q0 k0 b0) v0) (ext (scores q1 k1 b1) v1) x = block Q KP KC VP VC B i (y 0) (y 1) := by
  subst ho
  refine (congrArg _ (ix2_eta x).symm).trans (core qs _ _ v0 v1 Q KP KC VP VC B i (x 0) (x 1) (y 0) (y 1) h0 h1 ?_ ?_ hv0 hv1)
  · exact score_of qs hq2 _ _ _ Q KP KC B i 0 (fun r d => (hq0 r d).trans (congrArg (fun z => Q (ix2 _ z)) (Fin.ext (by simp)))) (fun j d => (hk0 j d).trans (congrArg (cat KP KC _) (Fin.ext (by simp)))) hb0
  · exact score_of qs hq2 _ _ _ Q KP KC B i 1 (fun r d => (hq1 r d).trans (congrArg (fun z => Q (ix2 _ z)) (Fin.ext (by simp)))) (fun j d => (hk1 j d).trans (congrArg (cat KP KC _) (Fin.ext (by simp)))) hb1

/-- One tile's store, element by element, at the tiles that carry the mask of the first rows. -/
theorem tile_masked_of (qs : Fin 16) (o : ℕ) (ho : o = 256 * qs) (n : ℕ) (hn : n = 512 - 256 * qs) (hq2 : (qs : ℕ) < 2)
    (q0 : Vec Ideal S256x64 .bf16) (k0 : Vec Ideal S768x64 .bf16) (b0 : Vec Ideal S1x256x768 .f32) (v0 : Vec Ideal S1x768x128 .bf16)
    (q1 : Vec Ideal S256x64 .bf16) (k1 : Vec Ideal S768x64 .bf16) (b1 : Vec Ideal S1x256x768 .f32) (v1 : Vec Ideal S1x768x128 .bf16)
    (Q : Vec Ideal S4096x128 .bf16) (KP : Vec Ideal S512x128 .bf16) (KC : Vec Ideal S4096x128 .bf16)
    (VP : Vec Ideal S512x128 .bf16) (VC : Vec Ideal S4096x128 .bf16) (B : Vec Ideal S2x256x768 .f32) (i : BitVec 32)
    (x : S256x128.Idx) (y : S4096x128.Idx) (h0 : (y 0 : ℕ) = o + x 0) (h1 : (y 1 : ℕ) = x 1)
    (hq0 : ∀ (r : Fin 256) d, q0 (ix2 r d) = Q (ix2 ⟨o + r, by omega⟩ ⟨0 + d, by omega⟩))
    (hk0 : ∀ (j : Fin 768) d, k0 (ix2 j d) = cat KP KC (o + j) ⟨0 + d, by omega⟩)
    (hb0 : ∀ r j, b0 (ix3 0 r j) = B (ix3 0 r j))
    (hq1 : ∀ (r : Fin 256) d, q1 (ix2 r d) = Q (ix2 ⟨o + r, by omega⟩ ⟨64 + d, by omega⟩))
    (hk1 : ∀ (j : Fin 768) d, k1 (ix2 j d) = cat KP KC (o + j) ⟨64 + d, by omega⟩)
    (hb1 : ∀ r j, b1 (ix3 0 r j) = B (ix3 1 r j))
    (hv0 : ∀ j l, v0 (ix3 0 j l) = (if (l : ℕ) < 64 then cat VP VC (o + j) l else 1 : EReal))
    (hv1 : ∀ j l, v1 (ix3 0 j l) = (if (l : ℕ) < 64 then 1 else cat VP VC (o + j) l : EReal)) :
    merge (ext (masked (scores q0 k0 b0) (BitVec.ofNat 32 n) i) v0) (ext (masked (scores q1 k1 b1) (BitVec.ofNat 32 n) i) v1) x = block Q KP KC VP VC B i (y 0) (y 1) := by
  subst ho
  refine (congrArg _ (ix2_eta x).symm).trans (core qs _ _ v0 v1 Q KP KC VP VC B i (x 0) (x 1) (y 0) (y 1) h0 h1 ?_ ?_ hv0 hv1)
  · exact masked_of qs n hn hq2 _ _ _ Q KP KC B i 0 (fun r d => (hq0 r d).trans (congrArg (fun z => Q (ix2 _ z)) (Fin.ext (by simp)))) (fun j d => (hk0 j d).trans (congrArg (cat KP KC _) (Fin.ext (by simp)))) hb0
  · exact masked_of qs n hn hq2 _ _ _ Q KP KC B i 1 (fun r d => (hq1 r d).trans (congrArg (fun z => Q (ix2 _ z)) (Fin.ext (by simp)))) (fun j d => (hk1 j d).trans (congrArg (cat KP KC _) (Fin.ext (by simp)))) hb1
end Cert.KernelIdeal.Tile
-- ==== Proof.Block.lean ====
module

public import proofs.«01_k».proof.Proof.Tile

@[expose] public section

set_option maxRecDepth 16384
noncomputable section

namespace Cert.KernelIdeal.Tile
open Cert.KernelIdeal Cert.KernelIdeal.Gen Idealize.ShloMosaic Idealize.ShloMosaic.TcCoe Idealize.SL.Sem
open Idealize.ShloMosaic.Pipeline (Dat)

theorem lane_head1 : ∀ l : Fin 128, IntOp.cmpi .eq (IntOp.shrsi ArithUnit.vector (BitVec.ofNat 32 l) 6#32) 1#32
    = if (l : ℕ) < 64 then 0#1 else 1#1 := by decide +kernel

/-- Reading queries out of the block. -/
theorem q_at (t : Fin cfg0.N) (X : Vec Ideal S4096x128 .bf16) (h : (ms0_0 t).IsWhole) (o p : ℕ) (inb) (r : Fin 256) (d : Fin 64)
    (ho : o + r < 4096) (hp : p + d < 128) :
    View.readAt (Elt Ideal) (ms0_0 t).view (Rect.unit (s := S4096x128) ![o, p] S256x64.size inb).toLoadRect (h.unread X) (ix2 r d)
      = X (ix2 ⟨o + r, ho⟩ ⟨p + d, hp⟩) := by
  rw [View.readAt_eq_ld, h.read_unread]
  exact View.ld_unit_apply_of _ _ _ _ _ _ fun a => by fin_cases a <;> rfl

/-- Reading one head's bias. -/
theorem b_at (t : Fin cfg0.N) (X : Vec Ideal S2x256x768 .f32) (h : (ms0_5 t).IsWhole) (o : ℕ) (inb) (r : Fin 256) (j : Fin 768)
    (ho : o < 2) :
    View.readAt (Elt Ideal) (ms0_5 t).view (Rect.unit (s := S2x256x768) ![o, 0, 0] S1x256x768.size inb).toLoadRect (h.unread X) (ix3 0 r j)
      = X (ix3 ⟨o, ho⟩ r j) := by
  rw [View.readAt_eq_ld, h.read_unread]
  exact View.ld_unit_apply_of _ _ _ _ _ _ fun a => by fin_cases a <;> simp

theorem kp_at (t : Fin cfg0.N) (X : Vec Ideal S512x128 .bf16) (h : (ms0_1 t).IsWhole) (inb) :
    View.readAt (Elt Ideal) (ms0_1 t).view (Rect.unit (s := S512x128) ![0, 0] S512x128.size inb).toLoadRect (h.unread X) = X := by
  rw [View.readAt_eq_ld, h.read_unread]
  exact funext fun x => View.ld_unit_apply_of _ _ _ _ _ _ fun a => by fin_cases a <;> simp

theorem kc_at (t : Fin cfg0.N) (X : Vec Ideal S4096x128 .bf16) (h : (ms0_2 t).IsWhole) (inb) :
    View.readAt (Elt Ideal) (ms0_2 t).view (Rect.unit (s := S4096x128) ![0, 0] S4096x128.size inb).toLoadRect (h.unread X) = X := by
  rw [View.readAt_eq_ld, h.read_unread]
  exact funext fun x => View.ld_unit_apply_of _ _ _ _ _ _ fun a => by fin_cases a <;> simp

theorem vp_at (t : Fin cfg0.N) (X : Vec Ideal S512x128 .bf16) (h : (ms0_3 t).IsWhole) (inb) :
    View.readAt (Elt Ideal) (ms0_3 t).view (Rect.unit (s := S512x128) ![0, 0] S512x128.size inb).toLoadRect (h.unread X) = X := by
  rw [View.readAt_eq_ld, h.read_unread]
  exact funext fun x => View.ld_unit_apply_of _ _ _ _ _ _ fun a => by fin_cases a <;> simp

theorem vc_at (t : Fin cfg0.N) (X : Vec Ideal S4096x128 .bf16) (h : (ms0_4 t).IsWhole) (inb) :
    View.readAt (Elt Ideal) (ms0_4 t).view (Rect.unit (s := S4096x128) ![0, 0] S4096x128.size inb).toLoadRect (h.unread X) = X := by
  rw [View.readAt_eq_ld, h.read_unread]
  exact funext fun x => View.ld_unit_apply_of _ _ _ _ _ _ fun a => by fin_cases a <;> simp

/-- The keys' scratch read back: the halo followed by the block. -/
theorem k_at (P' : Vec Ideal S512x128 .bf16) (C' : Vec Ideal S4096x128 .bf16) (P : Vec Ideal S512x128 .bf16) (C : Vec Ideal S4096x128 .bf16) (o p : ℕ) (i₁ i₂ i₃) (j : Fin 768) (d : Fin 64)
    (ho : o + 768 ≤ 4608) (hp : p + d < 128) (hP : P' = P) (hC : C' = C) :
    scM0_0.view.readCov (Val := Elt Ideal)
      [⟨Rect.unit (s := S4608x128) ![512, 0] S4096x128.size i₁, k0_pay2 C'⟩, ⟨Rect.unit (s := S4608x128) ![0, 0] S512x128.size i₂, k0_pay1 P'⟩]
      (Rect.unit (s := S4608x128) ![o, p] S768x64.size i₃).toLoadRect (ix2 j d) = cat P C (o + j) ⟨p + d, hp⟩ := by
  rw [hP, hC]
  rw [View.readCov_eq_canon']
  have e : (Rect.unit (s := S4608x128) ![o, p] S768x64.size i₃).toLoadRect.idx (ix2 j d) = ix2 (⟨o + j, by omega⟩ : Fin 4608) (⟨p + d, hp⟩ : Fin 128) :=
    funext fun a => Fin.ext (by fin_cases a <;> simp)
  dsimp only
  rw [e]
  canon_tiles x h using View.cover_of_tiledBy _ ![512, 128] (by sl_kernel_rfl) _
  · have h0' : o + (j : ℕ) = 512 + (x 0 : ℕ) := h0
    have h1' : p + (d : ℕ) = (x 1 : ℕ) := h1
    rw [cat, dif_neg (by omega)]
    pointwise [k0_pay2]
    exact congrArg C (funext fun a => Fin.ext (by fin_cases a <;> simp <;> omega))
  · have h0' : o + (j : ℕ) = (x 0 : ℕ) := h0
    have h1' : p + (d : ℕ) = (x 1 : ℕ) := h1
    rw [cat, dif_pos (by omega)]
    pointwise [k0_pay1]
    exact congrArg P (funext fun a => Fin.ext (by fin_cases a <;> simp <;> omega))

/-- The values' scratch of the first head read back: the halo followed by the block in the head's own lanes, ones elsewhere. -/
theorem v_at0 (P' : Vec Ideal S512x128 .bf16) (C' : Vec Ideal S4096x128 .bf16) (P : Vec Ideal S512x128 .bf16) (C : Vec Ideal S4096x128 .bf16) (o : ℕ) (i₁ i₂ i₃ i₄ i₅) (j : Fin 768) (l : Fin 128)
    (ho : o + 768 ≤ 4608) (hP : P' = P) (hC : C' = C) :
    scM0_1.view.readCov (Val := Elt Ideal)
      [⟨Rect.unit (s := S2x4608x128) ![1, 512, 0] S1x4096x128.size i₁, k0_pay7 k0_pay3 C'⟩,
       ⟨Rect.unit (s := S2x4608x128) ![1, 0, 0] S1x512x128.size i₂, k0_pay6 k0_pay3 P'⟩,
       ⟨Rect.unit (s := S2x4608x128) ![0, 512, 0] S1x4096x128.size i₃, k0_pay5 C'⟩,
       ⟨Rect.unit (s := S2x4608x128) ![0, 0, 0] S1x512x128.size i₄, k0_pay4 P'⟩]
      (Rect.unit (s := S2x4608x128) ![0, o, 0] S1x768x128.size i₅).toLoadRect (ix3 0 j l)
      = (if (l : ℕ) < 64 then cat P C (o + j) l else 1 : EReal) := by
  rw [hP, hC]
  rw [View.readCov_eq_canon']
  have e : (Rect.unit (s := S2x4608x128) ![0, o, 0] S1x768x128.size i₅).toLoadRect.idx (ix3 0 j l) = ix3 (0 : Fin 2) (⟨o + j, by omega⟩ : Fin 4608) l :=
    funext fun a => Fin.ext (by fin_cases a <;> simp)
  dsimp only
  rw [e]
  canon_tiles x h using View.cover_of_tiledBy _ ![1, 512, 128] (by sl_kernel_rfl) _
  · exact absurd h0 (by show ¬ 0 = 1 + (x 0 : ℕ); omega)
  · exact absurd h0 (by show ¬ 0 = 1 + (x 0 : ℕ); omega)
  · have h1' : o + (j : ℕ) = 512 + (x 1 : ℕ) := h1
    have h2' : (l : ℕ) = (x 2 : ℕ) := h2
    have e2 : x 2 = l := Fin.ext h2'.symm
    rw [cat, dif_neg (by omega)]
    pointwise [k0_pay5, k0_pay3]
    rw [e2, lane_head]
    split
    · exact congrArg C (congrArg (ix2 · l) (Fin.ext (by show (x 1 : ℕ) = (o + (j : ℕ) - 512) % 4096; omega)))
    · rfl
  · have h1' : o + (j : ℕ) = (x 1 : ℕ) := h1
    have h2' : (l : ℕ) = (x 2 : ℕ) := h2
    have e2 : x 2 = l := Fin.ext h2'.symm
    rw [cat, dif_pos (by omega)]
    pointwise [k0_pay4, k0_pay3]
    rw [e2, lane_head]
    split
    · exact congrArg P (congrArg (ix2 · l) (Fin.ext h1'.symm))
    · rfl

/-- The values' scratch of the second head read back: the halo followed by the block in the head's own lanes, ones elsewhere. -/
theorem v_at1 (P' : Vec Ideal S512x128 .bf16) (C' : Vec Ideal S4096x128 .bf16) (P : Vec Ideal S512x128 .bf16) (C : Vec Ideal S4096x128 .bf16) (o : ℕ) (i₁ i₂ i₃ i₄ i₅) (j : Fin 768) (l : Fin 128)
    (ho : o + 768 ≤ 4608) (hP : P' = P) (hC : C' = C) :
    scM0_1.view.readCov (Val := Elt Ideal)
      [⟨Rect.unit (s := S2x4608x128) ![1, 512, 0] S1x4096x128.size i₁, k0_pay7 k0_pay3 C'⟩,
       ⟨Rect.unit (s := S2x4608x128) ![1, 0, 0] S1x512x128.size i₂, k0_pay6 k0_pay3 P'⟩,
       ⟨Rect.unit (s := S2x4608x128) ![0, 512, 0] S1x4096x128.size i₃, k0_pay5 C'⟩,
       ⟨Rect.unit (s := S2x4608x128) ![0, 0, 0] S1x512x128.size i₄, k0_pay4 P'⟩]
      (Rect.unit (s := S2x4608x128) ![1, o, 0] S1x768x128.size i₅).toLoadRect (ix3 0 j l)
      = (if (l : ℕ) < 64 then 1 else cat P C (o + j) l : EReal) := by
  rw [hP, hC]
  rw [View.readCov_eq_canon']
  have e : (Rect.unit (s := S2x4608x128) ![1, o, 0] S1x768x128.size i₅).toLoadRect.idx (ix3 0 j l) = ix3 (1 : Fin 2) (⟨o + j, by omega⟩ : Fin 4608) l :=
    funext fun a => Fin.ext (by fin_cases a <;> simp)
  dsimp only
  rw [e]
  canon_tiles x h using View.cover_of_tiledBy _ ![1, 512, 128] (by sl_kernel_rfl) _
  · have h1' : o + (j : ℕ) = 512 + (x 1 : ℕ) := h1
    have h2' : (l : ℕ) = (x 2 : ℕ) := h2
    have e2 : x 2 = l := Fin.ext h2'.symm
    rw [cat, dif_neg (by omega)]
    pointwise [k0_pay7, k0_pay3]
    rw [e2, lane_head1]
    split
    · rfl
    · exact congrArg C (congrArg (ix2 · l) (Fin.ext (by show (x 1 : ℕ) = (o + (j : ℕ) - 512) % 4096; omega)))
  · have h1' : o + (j : ℕ) = (x 1 : ℕ) := h1
    have h2' : (l : ℕ) = (x 2 : ℕ) := h2
    have e2 : x 2 = l := Fin.ext h2'.symm
    rw [cat, dif_pos (by omega)]
    pointwise [k0_pay6, k0_pay3]
    rw [e2, lane_head1]
    split
    · rfl
    · exact congrArg P (congrArg (ix2 · l) (Fin.ext h1'.symm))
  · exact absurd h0 (by show ¬ 1 = (x 0 : ℕ); omega)
  · exact absurd h0 (by show ¬ 1 = (x 0 : ℕ); omega)

variable (m : (ℓ : Loc nD τ sig) → Buf (Elt Ideal) ℓ)

/-- What the body leaves in the output's block at a grid point, element by element. -/
theorem outs_at (c : Dev nD) (t : Fin cfg0.N) (y : S4096x128.Idx) :
    outsAt0 m c t y = block (iblk m c 0 t) (iblk m c 1 t) (iblk m c 2 t) (iblk m c 3 t) (iblk m c 4 t) (iblk m c 5 t)
      (BitVec.ofNat 32 (grid0.coords t 2)) (y 0) (y 1) := by
  unfold outsAt0 out0_A_6
  rw [View.read_writes_eq_canon _ _ _ (cover0_A_6 c _ _ _ _ _ _ _ _ _ _ _ _ _ _ _ _ _ _ _ _ _ _ _ _ _)]
  unfold kernelRun0_A
  dsimp only
  sl_unfold_words
  generalize iblk m c 0 t = Q, iblk m c 1 t = KP, iblk m c 2 t = KC, iblk m c 3 t = VP, iblk m c 4 t = VC, iblk m c 5 t = B
  canon_tiles x h
  · refine tile_of 15 3840 rfl (by decide) _ _ _ _ _ _ _ _ Q KP KC VP VC B _ x y h0 h1 ?_ ?_ ?_ ?_ ?_ ?_ ?_ ?_
    · exact fun r d => q_at t Q _ 3840 0 _ r d _ (by omega)
    · exact fun j d => k_at _ _ KP KC 3840 0 _ _ _ j d (by decide) (by omega) (kp_at t KP _ _) (kc_at t KC _ _)
    · exact fun r j => b_at t B _ 0 _ r j (by decide)
    · exact fun r d => q_at t Q _ 3840 64 _ r d _ (by omega)
    · exact fun j d => k_at _ _ KP KC 3840 64 _ _ _ j d (by decide) (by omega) (kp_at t KP _ _) (kc_at t KC _ _)
    · exact fun r j => b_at t B _ 1 _ r j (by decide)
    · exact fun j l => v_at0 _ _ VP VC 3840 _ _ _ _ _ j l (by decide) (vp_at t VP _ _) (vc_at t VC _ _)
    · exact fun j l => v_at1 _ _ VP VC 3840 _ _ _ _ _ j l (by decide) (vp_at t VP _ _) (vc_at t VC _ _)
  · refine tile_of 14 3584 rfl (by decide) _ _ _ _ _ _ _ _ Q KP KC VP VC B _ x y h0 h1 ?_ ?_ ?_ ?_ ?_ ?_ ?_ ?_
    · exact fun r d => q_at t Q _ 3584 0 _ r d _ (by omega)
    · exact fun j d => k_at _ _ KP KC 3584 0 _ _ _ j d (by decide) (by omega) (kp_at t KP _ _) (kc_at t KC _ _)
    · exact fun r j => b_at t B _ 0 _ r j (by decide)
    · exact fun r d => q_at t Q _ 3584 64 _ r d _ (by omega)
    · exact fun j d => k_at _ _ KP KC 3584 64 _ _ _ j d (by decide) (by omega) (kp_at t KP _ _) (kc_at t KC _ _)
    · exact fun r j => b_at t B _ 1 _ r j (by decide)
    · exact fun j l => v_at0 _ _ VP VC 3584 _ _ _ _ _ j l (by decide) (vp_at t VP _ _) (vc_at t VC _ _)
    · exact fun j l => v_at1 _ _ VP VC 3584 _ _ _ _ _ j l (by decide) (vp_at t VP _ _) (vc_at t VC _ _)
  · refine tile_of 13 3328 rfl (by decide) _ _ _ _ _ _ _ _ Q KP KC VP VC B _ x y h0 h1 ?_ ?_ ?_ ?_ ?_ ?_ ?_ ?_
    · exact fun r d => q_at t Q _ 3328 0 _ r d _ (by omega)
    · exact fun j d => k_at _ _ KP KC 3328 0 _ _ _ j d (by decide) (by omega) (kp_at t KP _ _) (kc_at t KC _ _)
    · exact fun r j => b_at t B _ 0 _ r j (by decide)
    · exact fun r d => q_at t Q _ 3328 64 _ r d _ (by omega)
    · exact fun j d => k_at _ _ KP KC 3328 64 _ _ _ j d (by decide) (by omega) (kp_at t KP _ _) (kc_at t KC _ _)
    · exact fun r j => b_at t B _ 1 _ r j (by decide)
    · exact fun j l => v_at0 _ _ VP VC 3328 _ _ _ _ _ j l (by decide) (vp_at t VP _ _) (vc_at t VC _ _)
    · exact fun j l => v_at1 _ _ VP VC 3328 _ _ _ _ _ j l (by decide) (vp_at t VP _ _) (vc_at t VC _ _)
  · refine tile_of 12 3072 rfl (by decide) _ _ _ _ _ _ _ _ Q KP KC VP VC B _ x y h0 h1 ?_ ?_ ?_ ?_ ?_ ?_ ?_ ?_
    · exact fun r d => q_at t Q _ 3072 0 _ r d _ (by omega)
    · exact fun j d => k_at _ _ KP KC 3072 0 _ _ _ j d (by decide) (by omega) (kp_at t KP _ _) (kc_at t KC _ _)
    · exact fun r j => b_at t B _ 0 _ r j (by decide)
    · exact fun r d => q_at t Q _ 3072 64 _ r d _ (by omega)
    · exact fun j d => k_at _ _ KP KC 3072 64 _ _ _ j d (by decide) (by omega) (kp_at t KP _ _) (kc_at t KC _ _)
    · exact fun r j => b_at t B _ 1 _ r j (by decide)
    · exact fun j l => v_at0 _ _ VP VC 3072 _ _ _ _ _ j l (by decide) (vp_at t VP _ _) (vc_at t VC _ _)
    · exact fun j l => v_at1 _ _ VP VC 3072 _ _ _ _ _ j l (by decide) (vp_at t VP _ _) (vc_at t VC _ _)
  · refine tile_of 11 2816 rfl (by decide) _ _ _ _ _ _ _ _ Q KP KC VP VC B _ x y h0 h1 ?_ ?_ ?_ ?_ ?_ ?_ ?_ ?_
    · exact fun r d => q_at t Q _ 2816 0 _ r d _ (by omega)
    · exact fun j d => k_at _ _ KP KC 2816 0 _ _ _ j d (by decide) (by omega) (kp_at t KP _ _) (kc_at t KC _ _)
    · exact fun r j => b_at t B _ 0 _ r j (by decide)
    · exact fun r d => q_at t Q _ 2816 64 _ r d _ (by omega)
    · exact fun j d => k_at _ _ KP KC 2816 64 _ _ _ j d (by decide) (by omega) (kp_at t KP _ _) (kc_at t KC _ _)
    · exact fun r j => b_at t B _ 1 _ r j (by decide)
    · exact fun j l => v_at0 _ _ VP VC 2816 _ _ _ _ _ j l (by decide) (vp_at t VP _ _) (vc_at t VC _ _)
    · exact fun j l => v_at1 _ _ VP VC 2816 _ _ _ _ _ j l (by decide) (vp_at t VP _ _) (vc_at t VC _ _)
  · refine tile_of 10 2560 rfl (by decide) _ _ _ _ _ _ _ _ Q KP KC VP VC B _ x y h0 h1 ?_ ?_ ?_ ?_ ?_ ?_ ?_ ?_
    · exact fun r d => q_at t Q _ 2560 0 _ r d _ (by omega)
    · exact fun j d => k_at _ _ KP KC 2560 0 _ _ _ j d (by decide) (by omega) (kp_at t KP _ _) (kc_at t KC _ _)
    · exact fun r j => b_at t B _ 0 _ r j (by decide)
    · exact fun r d => q_at t Q _ 2560 64 _ r d _ (by omega)
    · exact fun j d => k_at _ _ KP KC 2560 64 _ _ _ j d (by decide) (by omega) (kp_at t KP _ _) (kc_at t KC _ _)
    · exact fun r j => b_at t B _ 1 _ r j (by decide)
    · exact fun j l => v_at0 _ _ VP VC 2560 _ _ _ _ _ j l (by decide) (vp_at t VP _ _) (vc_at t VC _ _)
    · exact fun j l => v_at1 _ _ VP VC 2560 _ _ _ _ _ j l (by decide) (vp_at t VP _ _) (vc_at t VC _ _)
  · refine tile_of 9 2304 rfl (by decide) _ _ _ _ _ _ _ _ Q KP KC VP VC B _ x y h0 h1 ?_ ?_ ?_ ?_ ?_ ?_ ?_ ?_
    · exact fun r d => q_at t Q _ 2304 0 _ r d _ (by omega)
    · exact fun j d => k_at _ _ KP KC 2304 0 _ _ _ j d (by decide) (by omega) (kp_at t KP _ _) (kc_at t KC _ _)
    · exact fun r j => b_at t B _ 0 _ r j (by decide)
    · exact fun r d => q_at t Q _ 2304 64 _ r d _ (by omega)
    · exact fun j d => k_at _ _ KP KC 2304 64 _ _ _ j d (by decide) (by omega) (kp_at t KP _ _) (kc_at t KC _ _)
    · exact fun r j => b_at t B _ 1 _ r j (by decide)
    · exact fun j l => v_at0 _ _ VP VC 2304 _ _ _ _ _ j l (by decide) (vp_at t VP _ _) (vc_at t VC _ _)
    · exact fun j l => v_at1 _ _ VP VC 2304 _ _ _ _ _ j l (by decide) (vp_at t VP _ _) (vc_at t VC _ _)
  · refine tile_of 8 2048 rfl (by decide) _ _ _ _ _ _ _ _ Q KP KC VP VC B _ x y h0 h1 ?_ ?_ ?_ ?_ ?_ ?_ ?_ ?_
    · exact fun r d => q_at t Q _ 2048 0 _ r d _ (by omega)
    · exact fun j d => k_at _ _ KP KC 2048 0 _ _ _ j d (by decide) (by omega) (kp_at t KP _ _) (kc_at t KC _ _)
    · exact fun r j => b_at t B _ 0 _ r j (by decide)
    · exact fun r d => q_at t Q _ 2048 64 _ r d _ (by omega)
    · exact fun j d => k_at _ _ KP KC 2048 64 _ _ _ j d (by decide) (by omega) (kp_at t KP _ _) (kc_at t KC _ _)
    · exact fun r j => b_at t B _ 1 _ r j (by decide)
    · exact fun j l => v_at0 _ _ VP VC 2048 _ _ _ _ _ j l (by decide) (vp_at t VP _ _) (vc_at t VC _ _)
    · exact fun j l => v_at1 _ _ VP VC 2048 _ _ _ _ _ j l (by decide) (vp_at t VP _ _) (vc_at t VC _ _)
  · refine tile_of 7 1792 rfl (by decide) _ _ _ _ _ _ _ _ Q KP KC VP VC B _ x y h0 h1 ?_ ?_ ?_ ?_ ?_ ?_ ?_ ?_
    · exact fun r d => q_at t Q _ 1792 0 _ r d _ (by omega)
    · exact fun j d => k_at _ _ KP KC 1792 0 _ _ _ j d (by decide) (by omega) (kp_at t KP _ _) (kc_at t KC _ _)
    · exact fun r j => b_at t B _ 0 _ r j (by decide)
    · exact fun r d => q_at t Q _ 1792 64 _ r d _ (by omega)
    · exact fun j d => k_at _ _ KP KC 1792 64 _ _ _ j d (by decide) (by omega) (kp_at t KP _ _) (kc_at t KC _ _)
    · exact fun r j => b_at t B _ 1 _ r j (by decide)
    · exact fun j l => v_at0 _ _ VP VC 1792 _ _ _ _ _ j l (by decide) (vp_at t VP _ _) (vc_at t VC _ _)
    · exact fun j l => v_at1 _ _ VP VC 1792 _ _ _ _ _ j l (by decide) (vp_at t VP _ _) (vc_at t VC _ _)
  · refine tile_of 6 1536 rfl (by decide) _ _ _ _ _ _ _ _ Q KP KC VP VC B _ x y h0 h1 ?_ ?_ ?_ ?_ ?_ ?_ ?_ ?_
    · exact fun r d => q_at t Q _ 1536 0 _ r d _ (by omega)
    · exact fun j d => k_at _ _ KP KC 1536 0 _ _ _ j d (by decide) (by omega) (kp_at t KP _ _) (kc_at t KC _ _)
    · exact fun r j => b_at t B _ 0 _ r j (by decide)
    · exact fun r d => q_at t Q _ 1536 64 _ r d _ (by omega)
    · exact fun j d => k_at _ _ KP KC 1536 64 _ _ _ j d (by decide) (by omega) (kp_at t KP _ _) (kc_at t KC _ _)
    · exact fun r j => b_at t B _ 1 _ r j (by decide)
    · exact fun j l => v_at0 _ _ VP VC 1536 _ _ _ _ _ j l (by decide) (vp_at t VP _ _) (vc_at t VC _ _)
    · exact fun j l => v_at1 _ _ VP VC 1536 _ _ _ _ _ j l (by decide) (vp_at t VP _ _) (vc_at t VC _ _)
  · refine tile_of 5 1280 rfl (by decide) _ _ _ _ _ _ _ _ Q KP KC VP VC B _ x y h0 h1 ?_ ?_ ?_ ?_ ?_ ?_ ?_ ?_
    · exact fun r d => q_at t Q _ 1280 0 _ r d _ (by omega)
    · exact fun j d => k_at _ _ KP KC 1280 0 _ _ _ j d (by decide) (by omega) (kp_at t KP _ _) (kc_at t KC _ _)
    · exact fun r j => b_at t B _ 0 _ r j (by decide)
    · exact fun r d => q_at t Q _ 1280 64 _ r d _ (by omega)
    · exact fun j d => k_at _ _ KP KC 1280 64 _ _ _ j d (by decide) (by omega) (kp_at t KP _ _) (kc_at t KC _ _)
    · exact fun r j => b_at t B _ 1 _ r j (by decide)
    · exact fun j l => v_at0 _ _ VP VC 1280 _ _ _ _ _ j l (by decide) (vp_at t VP _ _) (vc_at t VC _ _)
    · exact fun j l => v_at1 _ _ VP VC 1280 _ _ _ _ _ j l (by decide) (vp_at t VP _ _) (vc_at t VC _ _)
  · refine tile_of 4 1024 rfl (by decide) _ _ _ _ _ _ _ _ Q KP KC VP VC B _ x y h0 h1 ?_ ?_ ?_ ?_ ?_ ?_ ?_ ?_
    · exact fun r d => q_at t Q _ 1024 0 _ r d _ (by omega)
    · exact fun j d => k_at _ _ KP KC 1024 0 _ _ _ j d (by decide) (by omega) (kp_at t KP _ _) (kc_at t KC _ _)
    · exact fun r j => b_at t B _ 0 _ r j (by decide)
    · exact fun r d => q_at t Q _ 1024 64 _ r d _ (by omega)
    · exact fun j d => k_at _ _ KP KC 1024 64 _ _ _ j d (by decide) (by omega) (kp_at t KP _ _) (kc_at t KC _ _)
    · exact fun r j => b_at t B _ 1 _ r j (by decide)
    · exact fun j l => v_at0 _ _ VP VC 1024 _ _ _ _ _ j l (by decide) (vp_at t VP _ _) (vc_at t VC _ _)
    · exact fun j l => v_at1 _ _ VP VC 1024 _ _ _ _ _ j l (by decide) (vp_at t VP _ _) (vc_at t VC _ _)
  · refine tile_of 3 768 rfl (by decide) _ _ _ _ _ _ _ _ Q KP KC VP VC B _ x y h0 h1 ?_ ?_ ?_ ?_ ?_ ?_ ?_ ?_
    · exact fun r d => q_at t Q _ 768 0 _ r d _ (by omega)
    · exact fun j d => k_at _ _ KP KC 768 0 _ _ _ j d (by decide) (by omega) (kp_at t KP _ _) (kc_at t KC _ _)
    · exact fun r j => b_at t B _ 0 _ r j (by decide)
    · exact fun r d => q_at t Q _ 768 64 _ r d _ (by omega)
    · exact fun j d => k_at _ _ KP KC 768 64 _ _ _ j d (by decide) (by omega) (kp_at t KP _ _) (kc_at t KC _ _)
    · exact fun r j => b_at t B _ 1 _ r j (by decide)
    · exact fun j l => v_at0 _ _ VP VC 768 _ _ _ _ _ j l (by decide) (vp_at t VP _ _) (vc_at t VC _ _)
    · exact fun j l => v_at1 _ _ VP VC 768 _ _ _ _ _ j l (by decide) (vp_at t VP _ _) (vc_at t VC _ _)
  · refine tile_of 2 512 rfl (by decide) _ _ _ _ _ _ _ _ Q KP KC VP VC B _ x y h0 h1 ?_ ?_ ?_ ?_ ?_ ?_ ?_ ?_
    · exact fun r d => q_at t Q _ 512 0 _ r d _ (by omega)
    · exact fun j d => k_at _ _ KP KC 512 0 _ _ _ j d (by decide) (by omega) (kp_at t KP _ _) (kc_at t KC _ _)
    · exact fun r j => b_at t B _ 0 _ r j (by decide)
    · exact fun r d => q_at t Q _ 512 64 _ r d _ (by omega)
    · exact fun j d => k_at _ _ KP KC 512 64 _ _ _ j d (by decide) (by omega) (kp_at t KP _ _) (kc_at t KC _ _)
    · exact fun r j => b_at t B _ 1 _ r j (by decide)
    · exact fun j l => v_at0 _ _ VP VC 512 _ _ _ _ _ j l (by decide) (vp_at t VP _ _) (vc_at t VC _ _)
    · exact fun j l => v_at1 _ _ VP VC 512 _ _ _ _ _ j l (by decide) (vp_at t VP _ _) (vc_at t VC _ _)
  · refine tile_masked_of 1 256 rfl 256 rfl (by decide) _ _ _ _ _ _ _ _ Q KP KC VP VC B _ x y h0 h1 ?_ ?_ ?_ ?_ ?_ ?_ ?_ ?_
    · exact fun r d => q_at t Q _ 256 0 _ r d _ (by omega)
    · exact fun j d => k_at _ _ KP KC 256 0 _ _ _ j d (by decide) (by omega) (kp_at t KP _ _) (kc_at t KC _ _)
    · exact fun r j => b_at t B _ 0 _ r j (by decide)
    · exact fun r d => q_at t Q _ 256 64 _ r d _ (by omega)
    · exact fun j d => k_at _ _ KP KC 256 64 _ _ _ j d (by decide) (by omega) (kp_at t KP _ _) (kc_at t KC _ _)
    · exact fun r j => b_at t B _ 1 _ r j (by decide)
    · exact fun j l => v_at0 _ _ VP VC 256 _ _ _ _ _ j l (by decide) (vp_at t VP _ _) (vc_at t VC _ _)
    · exact fun j l => v_at1 _ _ VP VC 256 _ _ _ _ _ j l (by decide) (vp_at t VP _ _) (vc_at t VC _ _)
  · refine tile_masked_of 0 0 rfl 512 rfl (by decide) _ _ _ _ _ _ _ _ Q KP KC VP VC B _ x y (by omega) h1 ?_ ?_ ?_ ?_ ?_ ?_ ?_ ?_
    · exact fun r d => q_at t Q _ 0 0 _ r d _ (by omega)
    · exact fun j d => k_at _ _ KP KC 0 0 _ _ _ j d (by decide) (by omega) (kp_at t KP _ _) (kc_at t KC _ _)
    · exact fun r j => b_at t B _ 0 _ r j (by decide)
    · exact fun r d => q_at t Q _ 0 64 _ r d _ (by omega)
    · exact fun j d => k_at _ _ KP KC 0 64 _ _ _ j d (by decide) (by omega) (kp_at t KP _ _) (kc_at t KC _ _)
    · exact fun r j => b_at t B _ 1 _ r j (by decide)
    · exact fun j l => v_at0 _ _ VP VC 0 _ _ _ _ _ j l (by decide) (vp_at t VP _ _) (vc_at t VC _ _)
    · exact fun j l => v_at1 _ _ VP VC 0 _ _ _ _ _ j l (by decide) (vp_at t VP _ _) (vc_at t VC _ _)

end Cert.KernelIdeal.Tile
-- ==== Proof.Arr.lean ====
module

public import proofs.«01_k».proof.Proof.Block

@[expose] public section

set_option maxRecDepth 16384
noncomputable section

namespace Cert.KernelIdeal.Tile
open Cert.KernelIdeal Cert.KernelIdeal.Gen Idealize.ShloMosaic Idealize.ShloMosaic.TcCoe Idealize.SL.Sem
open Idealize.ShloMosaic.Pipeline (Dat)

/-- The row of key column `j` of the tile that query row `R` lies in (at a sequence's start, where there is none, its first row). -/
def key (R : Fin 32768) (j : Fin 768) : Fin 32768 := ⟨8192 * (R / 8192) + (256 * (R % 8192 / 256) + j - 512), by omega⟩

/-- The score of query row `R` at key column `j` of its tile, minus infinity where the column lies before the sequence. -/
def sc (X : Vec Ideal S32768x1536 .bf16) (B : Vec Ideal S8x256x768 .f32) (R : Fin 32768) (h : Fin 8) (j : Fin 768) : EReal :=
  if 256 * ((R : ℕ) % 8192 / 256) + (j : ℕ) < 512 then ⊥
  else (∑ d : Fin 64, X (ix2 R ⟨64 * h + d, by omega⟩) * X (ix2 (key R j) ⟨512 + (64 * h + d), by omega⟩))
    + B (ix3 h ⟨R % 256, by omega⟩ j)

/-- The attention's result at a row and a lane, over the tile's 768 key columns. -/
def spec (X : Vec Ideal S32768x1536 .bf16) (B : Vec Ideal S8x256x768 .f32) (R : Fin 32768) (L : Fin 512) : EReal :=
  att (sc X B R ⟨L / 64, by omega⟩) (fun j => X (ix2 (key R j) ⟨1024 + L, by omega⟩))

/-- A key column scored minus infinity takes no part. -/
theorem pexp_bot (s : Fin 768 → EReal) (j : Fin 768) (h : s j = ⊥) : pexp s j = 0 := by
  rw [pexp, h, EReal.bot_sub, Ideal.exp_bot]

theorem att_congr (s s' v v' : Fin 768 → EReal) (hs : ∀ j, s j = s' j) (hv : ∀ j, s' j = ⊥ ∨ v j = v' j) : att s v = att s' v' := by
  have e : s = s' := funext hs
  subst e
  refine congrArg (Ideal.div · _) (Finset.sum_congr rfl fun j _ => ?_)
  rcases hv j with h | h
  · rw [pexp_bot _ _ h, zero_mul, zero_mul]
  · rw [h]

variable (m : (ℓ : Loc nD τ sig) → Buf (Elt Ideal) ℓ)

/-- The blocks' places, over the grid's points. -/
theorem places : ∀ t : Fin grid0.N,
    win0_0.index t = ![2 * (grid0.coords t 0 : ℕ) + grid0.coords t 2, grid0.coords t 1]
    ∧ win0_1.index t = ![16 * (grid0.coords t 0 : ℕ) + (8 * grid0.coords t 2 - 1), 4 + grid0.coords t 1]
    ∧ win0_2.index t = ![2 * (grid0.coords t 0 : ℕ) + grid0.coords t 2, 4 + grid0.coords t 1]
    ∧ win0_3.index t = ![16 * (grid0.coords t 0 : ℕ) + (8 * grid0.coords t 2 - 1), 8 + grid0.coords t 1]
    ∧ win0_4.index t = ![2 * (grid0.coords t 0 : ℕ) + grid0.coords t 2, 8 + grid0.coords t 1]
    ∧ win0_5.index t = ![(grid0.coords t 1 : ℕ), 0, 0]
    ∧ win0_6.index t = ![2 * (grid0.coords t 0 : ℕ) + grid0.coords t 2, grid0.coords t 1] := by decide +kernel

theorem bounds : ∀ t : Fin grid0.N, (grid0.coords t 0 : ℕ) < 4 ∧ (grid0.coords t 1 : ℕ) < 4 ∧ (grid0.coords t 2 : ℕ) < 2 := by decide +kernel

theorem q_blk (c : Dev nD) (t : Fin cfg0.N) (r : Fin 4096) (l : Fin 128) (n : Fin 32768) (k : Fin 1536)
    (hn : (n : ℕ) = 4096 * (2 * (grid0.coords t 0 : ℕ) + grid0.coords t 2) + r) (hk : (k : ℕ) = 128 * (grid0.coords t 1 : ℕ) + l) :
    iblk m c 0 t (ix2 r l) = m ((c : Thread nD τ).loc main_arg0) (ix2 n k) := by
  have e := (places t).1
  blk_simp [iblk]
  rw [V_main_arg0]
  blk_ext [e]

theorem kp_blk (c : Dev nD) (t : Fin cfg0.N) (r : Fin 512) (l : Fin 128) (n : Fin 32768) (k : Fin 1536)
    (hn : (n : ℕ) = 512 * (16 * (grid0.coords t 0 : ℕ) + (8 * grid0.coords t 2 - 1)) + r) (hk : (k : ℕ) = 128 * (4 + (grid0.coords t 1 : ℕ)) + l) :
    iblk m c 1 t (ix2 r l) = m ((c : Thread nD τ).loc main_arg0) (ix2 n k) := by
  have e := (places t).2.1
  blk_simp [iblk]
  rw [V_main_arg0]
  blk_ext [e]

theorem kc_blk (c : Dev nD) (t : Fin cfg0.N) (r : Fin 4096) (l : Fin 128) (n : Fin 32768) (k : Fin 1536)
    (hn : (n : ℕ) = 4096 * (2 * (grid0.coords t 0 : ℕ) + grid0.coords t 2) + r) (hk : (k : ℕ) = 128 * (4 + (grid0.coords t 1 : ℕ)) + l) :
    iblk m c 2 t (ix2 r l) = m ((c : Thread nD τ).loc main_arg0) (ix2 n k) := by
  have e := (places t).2.2.1
  blk_simp [iblk]
  rw [V_main_arg0]
  blk_ext [e]

theorem vp_blk (c : Dev nD) (t : Fin cfg0.N) (r : Fin 512) (l : Fin 128) (n : Fin 32768) (k : Fin 1536)
    (hn : (n : ℕ) = 512 * (16 * (grid0.coords t 0 : ℕ) + (8 * grid0.coords t 2 - 1)) + r) (hk : (k : ℕ) = 128 * (8 + (grid0.coords t 1 : ℕ)) + l) :
    iblk m c 3 t (ix2 r l) = m ((c : Thread nD τ).loc main_arg0) (ix2 n k) := by
  have e := (places t).2.2.2.1
  blk_simp [iblk]
  rw [V_main_arg0]
  blk_ext [e]

theorem vc_blk (c : Dev nD) (t : Fin cfg0.N) (r : Fin 4096) (l : Fin 128) (n : Fin 32768) (k : Fin 1536)
    (hn : (n : ℕ) = 4096 * (2 * (grid0.coords t 0 : ℕ) + grid0.coords t 2) + r) (hk : (k : ℕ) = 128 * (8 + (grid0.coords t 1 : ℕ)) + l) :
    iblk m c 4 t (ix2 r l) = m ((c : Thread nD τ).loc main_arg0) (ix2 n k) := by
  have e := (places t).2.2.2.2.1
  blk_simp [iblk]
  rw [V_main_arg0]
  blk_ext [e]

theorem b_blk (c : Dev nD) (t : Fin cfg0.N) (h : Fin 2) (r : Fin 256) (j : Fin 768) (n : Fin 8) (hn : (n : ℕ) = 2 * (grid0.coords t 1 : ℕ) + h) :
    iblk m c 5 t (ix3 h r j) = V m c main_v27 (ix3 n r j) := by
  have e := (places t).2.2.2.2.2.1
  blk_simp [iblk]
  blk_ext [e]

/-- A row of the halo followed by the block, at a grid point: the array's row. -/
theorem cat_blk (X : Vec Ideal S32768x1536 .bf16) (P : Vec Ideal S512x128 .bf16) (C : Vec Ideal S4096x128 .bf16) (b i o : ℕ) (hi : i < 2)
    (hP : ∀ (r : Fin 512) (l : Fin 128) (n : Fin 32768) (k : Fin 1536), (n : ℕ) = 512 * (16 * b + (8 * i - 1)) + r → (k : ℕ) = o + l → P (ix2 r l) = X (ix2 n k))
    (hC : ∀ (r : Fin 4096) (l : Fin 128) (n : Fin 32768) (k : Fin 1536), (n : ℕ) = 4096 * (2 * b + i) + r → (k : ℕ) = o + l → C (ix2 r l) = X (ix2 n k))
    (r : Fin 4096) (R : Fin 32768) (hR : (R : ℕ) = 4096 * (2 * b + i) + r) (j : Fin 768) (l : Fin 128) (k : Fin 1536) (hk : (k : ℕ) = o + l)
    (hn : ¬ (256 * ((r : ℕ) / 256) + j < 512 ∧ i = 0)) :
    cat P C (256 * ((r : ℕ) / 256) + j) l = X (ix2 (key R j) k) := by
  rw [cat]
  split
  · refine hP _ _ _ _ ?_ hk
    show 8192 * ((R : ℕ) / 8192) + (256 * ((R : ℕ) % 8192 / 256) + j - 512) = 512 * (16 * b + (8 * i - 1)) + (256 * ((r : ℕ) / 256) + j)
    omega
  · refine hC _ _ _ _ ?_ hk
    show 8192 * ((R : ℕ) / 8192) + (256 * ((R : ℕ) % 8192 / 256) + j - 512) = 4096 * (2 * b + i) + (256 * ((r : ℕ) / 256) + j - 512) % 4096
    omega

theorem block_eq (c : Dev nD) (t : Fin cfg0.N) (r : Fin 4096) (l : Fin 128) (R : Fin 32768) (L : Fin 512)
    (hR : (R : ℕ) = 4096 * (2 * (grid0.coords t 0 : ℕ) + grid0.coords t 2) + r) (hL : (L : ℕ) = 128 * (grid0.coords t 1 : ℕ) + l) :
    block (iblk m c 0 t) (iblk m c 1 t) (iblk m c 2 t) (iblk m c 3 t) (iblk m c 4 t) (iblk m c 5 t) (BitVec.ofNat 32 (grid0.coords t 2)) r l
      = spec (m ((c : Thread nD τ).loc main_arg0)) (V m c main_v27) R L := by
  obtain ⟨hb, hp, hi⟩ := bounds t
  have h0 : (BitVec.ofNat 32 (grid0.coords t 2 : ℕ) = 0) ↔ (grid0.coords t 2 : ℕ) = 0 := by
    have : (grid0.coords t 2 : ℕ) = 0 ∨ (grid0.coords t 2 : ℕ) = 1 := by omega
    rcases this with h | h <;> rw [h] <;> decide
  have hc : ∀ j : Fin 768, (256 * ((r : ℕ) / 256) + j < 512 ∧ (grid0.coords t 2 : ℕ) = 0) ↔ 256 * ((R : ℕ) % 8192 / 256) + j < 512 := by
    intro j; omega
  refine att_congr _ _ _ _ (fun j => ?_) (fun j => ?_)
  · rw [score, sc]
    simp only [h0]
    by_cases hm : 256 * ((R : ℕ) % 8192 / 256) + j < 512
    · rw [if_pos hm, if_pos ((hc j).mpr hm), EReal.add_bot]
    · rw [if_neg hm, if_neg (fun h => hm ((hc j).mp h)), add_zero]
      refine congrArg₂ (· + ·) (Finset.sum_congr rfl fun d _ => congrArg₂ (· * ·) ?_ ?_) ?_
      · exact q_blk m c t _ _ _ _ hR (by show 64 * ((L : ℕ) / 64) + d = _ + (64 * ((l : ℕ) / 64) + d); omega)
      · exact cat_blk _ _ _ _ _ (128 * (4 + (grid0.coords t 1 : ℕ))) hi (kp_blk m c t) (kc_blk m c t) r R hR j _ _
          (by show 512 + (64 * ((L : ℕ) / 64) + d) = _ + (64 * ((l : ℕ) / 64) + d); omega) (fun h => hm ((hc j).mp h))
      · have e : (⟨(r : ℕ) % 256, Nat.mod_lt _ (by decide)⟩ : Fin 256) = ⟨R % 256, by omega⟩ := Fin.ext (by show (r : ℕ) % 256 = R % 256; omega)
        rw [e]
        exact b_blk m c t _ _ _ _ (by show (L : ℕ) / 64 = _ + (l : ℕ) / 64; omega)
  · by_cases hm : 256 * ((R : ℕ) % 8192 / 256) + j < 512
    · exact .inl (by rw [sc, if_pos hm])
    · exact .inr (cat_blk _ _ _ _ _ (128 * (8 + (grid0.coords t 1 : ℕ))) hi (vp_blk m c t) (vc_blk m c t) r R hR j _ _
          (by show 1024 + (L : ℕ) = _ + (l : ℕ); omega) (fun h => hm ((hc j).mp h)))

/-- The output array after the run. -/
theorem final (c : Dev nD) : (dats m 0 c).arrAt 6 cfg0.N
    = fun z : S32768x512.Idx => spec (m ((c : Thread nD τ).loc main_arg0)) (V m c main_v27) (z 0) (z 1) := by
  refine (dats m 0 c).arrAt_eq_of_covers 6 _ (by decide +kernel) fun t hf y => ?_
  have e := (places t).2.2.2.2.2.2
  blk_simp
  rw [after0_6]
  refine (outs_at m c t y).trans (block_eq m c t _ _ _ _ ?_ ?_)
  · blk_simp [e]; omega
  · blk_simp [e]; omega
end Cert.KernelIdeal.Tile
-- ==== Proof.Bias.lean ====
module

public import proofs.«01_k».proof.Proof.Arr
public import Idealize.ShloMosaic.Lib.StableHlo.ReadAt

@[expose] public section

set_option maxRecDepth 16384
noncomputable section

namespace Cert.KernelIdeal.Tile
open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ)

/-- The quotient of a small index word by 64, rounded down: what the host's floor division computes. -/
def quot (x : BitVec 32) : BitVec 32 :=
  Scalar.select
    (IntOp.andi
      (IntOp.cmpi CmpIPredicate.ne (if x = 0 then (0 : BitVec 32) else if x.msb = true then -1 else 1)
        (if id (constantI S_ 32 64#32) ix0 = 0 then (0 : BitVec 32)
          else if BitVec.msb (id (constantI S_ 32 64#32) ix0) = true then -1 else 1))
      (IntOp.cmpi CmpIPredicate.ne (IntOp.remsi ArithUnit.host x (id (constantI S_ 32 64#32) ix0)) 0#32))
    (IntOp.subi (IntOp.divsi ArithUnit.host x (id (constantI S_ 32 64#32) ix0)) 1#32)
    (IntOp.divsi ArithUnit.host x (id (constantI S_ 32 64#32) ix0))

theorem quot_eq (x : Fin 768) : quot (BitVec.ofNat 32 x) = BitVec.ofNat 32 ((x : ℕ) / 64) := by
  revert x
  decide +kernel

/-- The band: columns whose chunk is at most eight chunks past the row's. -/
theorem band_eq (a : Fin 12) (b : Fin 4) :
    IntOp.andi (IntOp.cmpi CmpIPredicate.sge (IntOp.subi (BitVec.ofNat 32 a) (BitVec.ofNat 32 b)) 0#32)
      (IntOp.cmpi CmpIPredicate.sle (IntOp.subi (BitVec.ofNat 32 a) (BitVec.ofNat 32 b)) 8#32)
      = if (b : ℕ) ≤ a ∧ (a : ℕ) ≤ b + 8 then 1#1 else 0#1 := by
  revert a b
  decide +kernel

theorem quot_raw (n : ℕ) (hn : n < 768) :
  Scalar.select
    (IntOp.andi
      (IntOp.cmpi CmpIPredicate.ne (if BitVec.ofNat 32 n = 0 then (0 : BitVec 32) else if (BitVec.ofNat 32 n).msb = true then -1 else 1)
        (if id (constantI S_ 32 64#32) ix0 = 0 then (0 : BitVec 32)
          else if BitVec.msb (id (constantI S_ 32 64#32) ix0) = true then -1 else 1))
      (IntOp.cmpi CmpIPredicate.ne (IntOp.remsi ArithUnit.host (BitVec.ofNat 32 n) (id (constantI S_ 32 64#32) ix0)) 0#32))
    (IntOp.subi (IntOp.divsi ArithUnit.host (BitVec.ofNat 32 n) (id (constantI S_ 32 64#32) ix0)) 1#32)
    (IntOp.divsi ArithUnit.host (BitVec.ofNat 32 n) (id (constantI S_ 32 64#32) ix0)) = BitVec.ofNat 32 (n / 64) :=
  quot_eq ⟨n, hn⟩

theorem band_raw (a b : ℕ) (ha : a < 12) (hb : b < 4) :
    IntOp.andi (IntOp.cmpi CmpIPredicate.sge (IntOp.subi (BitVec.ofNat 32 a) (BitVec.ofNat 32 b)) 0#32)
      (IntOp.cmpi CmpIPredicate.sle (IntOp.subi (BitVec.ofNat 32 a) (BitVec.ofNat 32 b)) 8#32)
      = if b ≤ a ∧ a ≤ b + 8 then 1#1 else 0#1 := band_eq ⟨a, ha⟩ ⟨b, hb⟩

theorem pick_one {α : Type} (x y : α) : Scalar.select 1#1 x y = x := rfl
theorem pick_zero {α : Type} (x y : α) : Scalar.select 0#1 x y = y := rfl

/-- The first five host operations. -/
abbrev ops5 : List (HloOp τ sig (Elt Ideal)) := [hostOps0, hostOps0_1, hostOps0_2, hostOps0_3, hostOps0_4, hostOps0_5].flatten

theorem left_at (c : Dev nD) (h : Fin 8) (k : Fin 640) :
    StableHlo.upto ops5 (fun b => m (c, b)) 5 (Proc.tc.devRef main_v1) (ix2 h k) = m ((c : Thread nD τ).loc main_arg1) (ix2 h (0 : Fin 192)) := by
  unfold StableHlo.upto
  simp only [ops5, List.flatten_cons, List.cons_append, List.take_succ_cons, List.take_zero]
  after_reads_at
theorem mid_at (c : Dev nD) (h : Fin 8) (k : Fin 191) :
    StableHlo.upto ops5 (fun b => m (c, b)) 5 (Proc.tc.devRef main_v2) (ix2 h k) = m ((c : Thread nD τ).loc main_arg1) (ix2 h (⟨1 + k, by omega⟩ : Fin 192)) := by
  unfold StableHlo.upto
  simp only [ops5, List.flatten_cons, List.cons_append, List.take_succ_cons, List.take_zero]
  after_reads_at
theorem right_at (c : Dev nD) (h : Fin 8) (k : Fin 194) :
    StableHlo.upto ops5 (fun b => m (c, b)) 5 (Proc.tc.devRef main_v4) (ix2 h k) = m ((c : Thread nD τ).loc main_arg1) (ix2 h (191 : Fin 192)) := by
  unfold StableHlo.upto
  simp only [ops5, List.flatten_cons, List.cons_append, List.take_succ_cons, List.take_zero]
  after_reads_at

theorem bias_at (c : Dev nD) (h : Fin 8) (r : Fin 256) (j : Fin 768) : V m c main_v27 (ix3 h r j)
   = if (r : ℕ) / 64 ≤ j / 64 ∧ (j : ℕ) / 64 ≤ r / 64 + 8 then
       (m ((c : Thread nD τ).loc main_arg1) (ix2 h ⟨min ((j : ℕ) - (r + 384)) 191, by omega⟩) : EReal) else (⊥ : EReal) := by
  unfold V
  after_reads_at
  have hj : (j : ℕ) < 768 := j.isLt
  have hr : (r : ℕ) < 256 := r.isLt
  simp only [quot_raw j hj, quot_raw r (by omega), band_raw _ _ (show (j : ℕ) / 64 < 12 by omega) (show (r : ℕ) / 64 < 4 by omega)]
  by_cases hb : (r : ℕ) / 64 ≤ j / 64 ∧ (j : ℕ) / 64 ≤ r / 64 + 8
  · simp only [if_pos hb, pick_one]
    split
    · refine (left_at m c h _).trans (congrArg _ (congrArg _ (Fin.ext ?_)))
      show 0 = min ((j : ℕ) - (r + 384)) 191
      omega
    · split
      · refine (mid_at m c h _).trans (congrArg _ (congrArg _ (Fin.ext ?_)))
        show 1 + ((255 + ((r : ℕ) * 1024 + j)) % 1025 - 640) = min ((j : ℕ) - (r + 384)) 191
        omega
      · refine (right_at m c h _).trans (congrArg _ (congrArg _ (Fin.ext ?_)))
        show 191 = min ((j : ℕ) - (r + 384)) 191
        omega
  · simp only [if_neg hb, pick_zero]
    exact neg_inf

end Cert.KernelIdeal.Tile
-- ==== Proof.Gather.lean ====
module

public import proofs.«01_k».proof.Proof.Gen.ReferenceIdeal.Run
public import Idealize.ShloMosaic.Lib.Pipeline.ValueKit
public import Idealize.ShloMosaic.Lib.Pointwise

@[expose] public section

set_option maxRecDepth 16384
noncomputable section

namespace Cert.ReferenceIdeal.Read
open Cert.ReferenceIdeal Cert.ReferenceIdeal.Value Idealize.ShloMosaic Idealize.ShloMosaic.TcCoe Idealize.SL.Sem
open Idealize.ShloMosaic.StableHlo

theorem gather_at (x : Vec Ideal S8x192 .f32) (idx : IVec S64x9x64x1 32) (h : Fin 8) (c : Fin 64) (k : Fin 9) (d : Fin 64)
    (e : Fin 192) (he : idx (ix4 c k d (0 : Fin 1)) = BitVec.ofNat 32 e) :
    Host.gather gather_S8x192_S64x9x64x1_S8x64x9x64_0_1_n_n_1_3_81 x idx (ix4 h c k d) = x (ix2 h e) := by
  unfold Host.gather
  refine congrArg x (funext fun a => Fin.ext ?_)
  match a with
  | ⟨0, _⟩ =>
    show 0 + 0 + (h : ℕ) = h
    omega
  | ⟨1, _⟩ =>
    have hs : gather_S8x192_S64x9x64x1_S8x64x9x64_0_1_n_n_1_3_81.siIdx (ix4 h c k d) ⟨0, by decide⟩ = ix4 c k d (0 : Fin 1) := by
      funext b
      match b with
      | ⟨0, _⟩ => rfl
      | ⟨1, _⟩ => rfl
      | ⟨2, _⟩ => rfl
      | ⟨3, _⟩ => rfl
    show min (idx (gather_S8x192_S64x9x64x1_S8x64x9x64_0_1_n_n_1_3_81.siIdx (ix4 h c k d) ⟨0, by decide⟩)).toInt.toNat 191 + 0 + 0 = (e : ℕ)
    rw [hs, he]
    have := e.isLt
    rw [BitVec.toInt_eq_toNat_of_lt (by rw [BitVec.toNat_ofNat]; omega), BitVec.toNat_ofNat]
    omega

theorem max_at (f : Vec Ideal S4x8x128x64x576 .f32) (w : BitVec 32) (hu : 0 < S_.numel) (b : Fin 4) (h : Fin 8) (n : Fin 128) (c : Fin 64) :
    Host.reduce (FloatOps.maximumf (F := Ideal) (φ := .f32)) f (constant S_ .f32 w) Gen.reducesTo_S4x8x128x64x576_S4x8x128x64_d4 hu (ix4 b h n c)
      = Finset.univ.fold max (Ideal.ofBits .f32 w) (fun k : Fin 576 => (f (ix5 b h n c k) : EReal)) := by
  have hr : S4x8x128x64x576.Reduces [4] S4x8x128x64 := by decide
  rw [Host.reduce_eq_fold_single _ _ _ _ hr]
  have e : f ∘ hr.lift (ix4 b h n c) = fun k : Fin 576 => (f (ix5 b h n c k) : EReal) := by
    funext k
    refine congrArg f (funext fun a => ?_)
    match a with
    | ⟨0, _⟩ => rfl
    | ⟨1, _⟩ => rfl
    | ⟨2, _⟩ => rfl
    | ⟨3, _⟩ => rfl
    | ⟨4, _⟩ => rfl
  rw [e]
  rfl
end Cert.ReferenceIdeal.Read
-- ==== Proof.Ref.lean ====
module

public import proofs.«01_k».proof.Proof.Gen.ReferenceIdeal.Run
public import proofs.«01_k».proof.Proof.Gather
public import proofs.«01_k».proof.Proof.Tile
public import Idealize.ShloMosaic.Lib.Pointwise

@[expose] public section

set_option maxRecDepth 16384
noncomputable section

namespace Cert.ReferenceIdeal.Read
open Cert.ReferenceIdeal Cert.ReferenceIdeal.Value Idealize.ShloMosaic Idealize.ShloMosaic.TcCoe Idealize.SL.Sem
open Idealize.ShloMosaic.StableHlo

variable (V : Valuation τ sig (Elt Ideal))

/-- The first argument: queries, keys and values side by side. -/
abbrev X : Vec Ideal S32768x1536 .bf16 := V (Proc.devRef .tc main_arg0)
/-- The second argument: the position bias of every head. -/
abbrev T : Vec Ideal S8x192 .f32 := V (Proc.devRef .tc main_arg1)

theorem v5_at (b : Fin 4) (h : Fin 8) (n : Fin 128) (c d : Fin 64) :
    res_main_v5 V (ix5 b h n c d) = X V (ix2 ⟨8192 * b + 64 * n + c, by omega⟩ ⟨64 * h + d, by omega⟩) := by
  pointwise [res_main_v5, res_main_v0]
  refine congrArg (V (Proc.devRef .tc main_arg0)) ?_
  refine congrArg₂ ix2 (Fin.ext ?_) (Fin.ext ?_)
  · show (b : ℕ) * 8192 + n * 64 + c = 8192 * b + 64 * n + c
    omega
  · show (h : ℕ) * 64 + d = 64 * h + d
    omega

/-- The host's padding value. -/
theorem pad_zero : (FloatOps.sitofp .f32 0#32 : Ideal .f32) = (0 : EReal) := by
  show (((0#32 : BitVec 32).toInt : ℝ) : EReal) = 0
  norm_num

theorem v8_at (b : Fin 4) (h : Fin 8) (n : Fin 136) (c d : Fin 64) :
    res_main_v8 V (ix5 b h n c d) = if (n : ℕ) < 8 then (0 : EReal) else X V (ix2 ⟨8192 * b + 64 * (n - 8) + c, by omega⟩ ⟨512 + (64 * h + d), by omega⟩) := by
  pointwise [res_main_v8, res_main_v0]
  by_cases hn : (n : ℕ) < 8
  · rw [if_pos hn, dif_neg (by omega)]
    exact pad_zero
  · rw [if_neg hn, dif_pos (by omega)]
    refine congrArg (V (Proc.devRef .tc main_arg0)) ?_
    refine congrArg₂ ix2 (Fin.ext ?_) (Fin.ext ?_)
    · show (b : ℕ) * 8192 + (n - 8) * 64 + c = 8192 * b + 64 * (n - 8) + c
      omega
    · show 512 + ((h : ℕ) * 64 + d) = 512 + (64 * h + d)
      omega

theorem v11_at (b : Fin 4) (h : Fin 8) (n : Fin 136) (c d : Fin 64) :
    res_main_v11 V (ix5 b h n c d) = if (n : ℕ) < 8 then (0 : EReal) else X V (ix2 ⟨8192 * b + 64 * (n - 8) + c, by omega⟩ ⟨1024 + (64 * h + d), by omega⟩) := by
  pointwise [res_main_v11, res_main_v0]
  by_cases hn : (n : ℕ) < 8
  · rw [if_pos hn, dif_neg (by omega)]
    exact pad_zero
  · rw [if_neg hn, dif_pos (by omega)]
    refine congrArg (V (Proc.devRef .tc main_arg0)) ?_
    refine congrArg₂ ix2 (Fin.ext ?_) (Fin.ext ?_)
    · show (b : ℕ) * 8192 + (n - 8) * 64 + c = 8192 * b + 64 * (n - 8) + c
      omega
    · show 1024 + ((h : ℕ) * 64 + d) = 1024 + (64 * h + d)
      omega

theorem clamp_eq (i : Fin 640) : IntOp.addi (IntOp.minsi 63#32 (IntOp.maxsi 4294967168#32 (BitVec.ofNat 32 i - 575#32))) 128#32
    = BitVec.ofNat 32 (min ((i : ℕ) - 447) 191) := by
  revert i
  decide +kernel

theorem v58_at (c : Fin 64) (k : Fin 9) (d : Fin 64) :
    res_main_v58 V (ix3 c k d) = BitVec.ofNat 32 (min (64 * (k : ℕ) + d - (c + 384)) 191) := by
  pointwise [res_main_v58]
  have e : IntOp.subi (IntOp.addi (IntOp.muli (IntOp.subi (BitVec.ofNat 32 k) 8#32) 64#32) (BitVec.ofNat 32 d)) (BitVec.ofNat 32 c)
      = BitVec.ofNat 32 (64 * k + d + 63 - c) - 575#32 := by
    apply BitVec.eq_of_toNat_eq
    simp only [IntOp.subi, IntOp.addi, IntOp.muli, BitVec.toNat_sub, BitVec.toNat_add, BitVec.toNat_mul, BitVec.toNat_ofNat]
    omega
  refine (congrArg (fun w => IntOp.addi (IntOp.minsi 63#32 (IntOp.maxsi 4294967168#32 w)) 128#32) e).trans ?_
  refine (clamp_eq ⟨64 * k + d + 63 - c, by omega⟩).trans (congrArg _ ?_)
  show min (64 * (k : ℕ) + d + 63 - c - 447) 191 = _
  omega

/-- The queries, split by sequence, head and chunk. -/
abbrev Qs : S4x8x128x64x64.Idx → EReal := res_main_v5 V
/-- The keys, split likewise, after eight chunks of zeros. -/
abbrev Ks : S4x8x136x64x64.Idx → EReal := res_main_v8 V

/-- The score of query `c` of chunk `n` against key `d` of its band's chunk `k`, before the mask. -/
def raw (b : Fin 4) (h : Fin 8) (n : Fin 128) (c : Fin 64) (k : Fin 9) (d : Fin 64) : EReal :=
  (∑ x : Fin 64, Qs V (ix5 b h n c x) * Ks V (ix5 b h ⟨k + n, by omega⟩ d x))
      + (T V (ix2 h ⟨min (64 * (k : ℕ) + d - (c + 384)) 191, by omega⟩) : EReal)

theorem word_small (x : Fin 192) : Scalar.select (IntOp.cmpi CmpIPredicate.slt (BitVec.ofNat 32 x) 0#32) (IntOp.addi (BitVec.ofNat 32 x) 192#32) (BitVec.ofNat 32 x)
    = BitVec.ofNat 32 x := by
  revert x
  decide +kernel

theorem start_at (c : Fin 64) (k : Fin 9) (d : Fin 64) (h1) (h2) (h3) :
    broadcastInDim S64x9x64x1 ![0, 1, 2] h1
          (select
            (cmpi CmpIPredicate.slt (res_main_v58 V)
              (broadcastInDim S64x9x64 ![] h2 (constantI S_ 32 0#32)))
            (addi (res_main_v58 V) (broadcastInDim S64x9x64 ![] h3 (constantI S_ 32 192#32)))
            (res_main_v58 V)) (ix4 c k d (0 : Fin 1)) = BitVec.ofNat 32 (min (64 * (k : ℕ) + d - (c + 384)) 191) := by
  pointwise
  simp only [v58_at]
  exact word_small ⟨min (64 * (k : ℕ) + d - (c + 384)) 191, by omega⟩

theorem v78_at (b : Fin 4) (h : Fin 8) (n : Fin 128) (c : Fin 64) (k : Fin 9) (d : Fin 64) :
    res_main_v78 V (ix6 b h n c k d) = raw V b h n c k d := by
  pointwise [res_main_v78]
  unfold raw
  refine congrArg₂ (fun x y : EReal => x + y) ?_ (gather_at _ _ h c k d ⟨_, by omega⟩ (start_at V c k d _ _ _))
  have go : ∀ (i : ℕ) (hi : i + (n : ℕ) < 136), i = k →
      (∑ x : Fin 64, Qs V (ix5 b h n c x) * Ks V (ix5 b h ⟨i + n, hi⟩ d x))
      = ∑ x : Fin 64, Qs V (ix5 b h n c x) * Ks V (ix5 b h ⟨k + n, by omega⟩ d x) := by
    intro i hi e
    subst e
    rfl
  have hk := k.isLt
  split
  · refine Eq.trans ?_ (go 0 (by omega) (by omega))
    refine Finset.sum_congr rfl fun x _ => ?_
    exact congrArg (fun y => Qs V (ix5 b h n c x) * Ks V (ix5 b h y d x)) (Fin.ext (Nat.zero_add _).symm)
  split
  · exact go 1 (by omega) (by omega)
  split
  · exact go 2 (by omega) (by omega)
  split
  · exact go 3 (by omega) (by omega)
  split
  · exact go 4 (by omega) (by omega)
  split
  · exact go 5 (by omega) (by omega)
  split
  · exact go 6 (by omega) (by omega)
  split
  · exact go 7 (by omega) (by omega)
  · exact go 8 (by omega) (by omega)

theorem early (n : Fin 128) (k : Fin 9) : IntOp.cmpi CmpIPredicate.sge (IntOp.addi (BitVec.ofNat 32 n) (BitVec.ofNat 32 k)) 8#32
    = if (n : ℕ) + k < 8 then 0#1 else 1#1 := by
  revert n k
  decide +kernel

/-- The masked score: no key before the sequence's start. -/
def row (b : Fin 4) (h : Fin 8) (n : Fin 128) (c : Fin 64) (k : Fin 576) : EReal :=
  if (n : ℕ) + (k : ℕ) / 64 < 8 then (⊥ : EReal) else raw V b h n c ⟨k / 64, by omega⟩ ⟨k % 64, by omega⟩

theorem v80_at (b : Fin 4) (h : Fin 8) (n : Fin 128) (c : Fin 64) (k : Fin 576) :
    res_main_v80 V (ix5 b h n c k) = row V b h n c k := by
  pointwise [res_main_v80]
  have e := early n ⟨k / 64, by omega⟩
  simp only at e
  simp only [e, row]
  by_cases hn : (n : ℕ) + (k : ℕ) / 64 < 8
  · simp only [if_pos hn]
    exact Cert.KernelIdeal.Tile.neg_inf
  · simp only [if_neg hn]
    exact v78_at V b h n c _ _

theorem soft_of (f : Vec Ideal S4x8x128x64x576 .f32) (M : Vec Ideal S4x8x128x64 .f32) (b : Fin 4) (h : Fin 8) (n : Fin 128) (c : Fin 64) (k : Fin 576) (h1) (h2) (h3) :
    (Host.exp (subf f (broadcastInDim S4x8x128x64x576 ![0, 1, 2, 3, 4] h1 (broadcastInDim S4x8x128x64x1 ![0, 1, 2, 3] h2 (maximumf (broadcastInDim S4x8x128x64 ![] h3 (constant (F := Ideal) S_ .f32 0xFF800000#32)) M)))) : Vec Ideal S4x8x128x64x576 .f32) (ix5 b h n c k)
      = Ideal.exp ((f (ix5 b h n c k) : EReal) - max (Ideal.ofBits .f32 0xFF800000#32) (M (ix4 b h n c) : EReal)) := by
  pointwise

/-- The exponential of a score less the largest of its row. -/
def pe (s : Fin 576 → EReal) (k : Fin 576) : EReal := Ideal.exp (s k - Finset.univ.sup s)

theorem soft_max (s : Fin 576 → EReal) (x : EReal) (hx : x = Finset.univ.fold max (Ideal.ofBits .f32 0xFF800000#32) s) (k : Fin 576) :
    Ideal.exp (s k - max (Ideal.ofBits .f32 0xFF800000#32) x) = pe s k := by
  rw [hx, Cert.KernelIdeal.Tile.neg_inf, max_eq_right bot_le]
  rfl

theorem v87_at (b : Fin 4) (h : Fin 8) (n : Fin 128) (c : Fin 64) (k : Fin 576) :
    res_main_v87 V (ix5 b h n c k) = pe (row V b h n c) k := by
  have e : (fun k : Fin 576 => (res_main_v80 V (ix5 b h n c k) : EReal)) = row V b h n c := funext fun k => v80_at V b h n c k
  have e1 := soft_of (res_main_v80 V) (Host.reduce (FloatOps.maximumf (F := Ideal) (φ := .f32)) (res_main_v80 V) (constant (F := Ideal) S_ .f32 0xFF800000#32) Gen.reducesTo_S4x8x128x64x576_S4x8x128x64_d4 Gen.h_S_) b h n c k
    Gen.bcast_S4x8x128x64x1_S4x8x128x64x576_0_1_2_3_4 Gen.bcast_S4x8x128x64_S4x8x128x64x1_0_1_2_3 Gen.bcast_S_S4x8x128x64
  have e2 := max_at (res_main_v80 V) 0xFF800000#32 Gen.h_S_ b h n c
  have e3 := soft_max (fun k : Fin 576 => (res_main_v80 V (ix5 b h n c k) : EReal)) _ e2 k
  rw [e] at e3
  exact e1.trans e3

/-- The attention's weight of key `d` of the band's chunk `k`. -/
def weight (b : Fin 4) (h : Fin 8) (n : Fin 128) (c : Fin 64) (k : Fin 9) (d : Fin 64) : EReal :=
  Ideal.div (pe (row V b h n c) ⟨64 * k + d, by omega⟩) (∑ x : Fin 576, pe (row V b h n c) x)

theorem v92_at (b : Fin 4) (h : Fin 8) (n : Fin 128) (c : Fin 64) (k : Fin 9) (d : Fin 64) :
    res_main_v92 V (ix6 b h n c k d) = weight V b h n c k d := by
  pointwise [res_main_v92]
  simp only [v87_at, weight]
  exact congrArg (fun y => Ideal.div (pe (row V b h n c) y) (∑ x : Fin 576, pe (row V b h n c) x))
    (Fin.ext (by show (k : ℕ) * 64 + d = 64 * k + d; omega))

end Cert.ReferenceIdeal.Read
-- ==== Proof.Pure.lean ====
module

public import proofs.«01_k».proof.Proof.Tile
public import proofs.«01_k».proof.Proof.Ref

@[expose] public section

set_option maxRecDepth 16384
noncomputable section

namespace Cert.Pure
open Idealize.ShloMosaic Cert.KernelIdeal.Tile Cert.ReferenceIdeal.Read

theorem coe_sum {ι : Type} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- A real sum of products is real. -/
theorem real_dot {n : ℕ} (x y : Fin n → EReal) (hx : ∀ i, ∃ r : ℝ, x i = r) (hy : ∀ i, ∃ r : ℝ, y i = r) :
    ∃ r : ℝ, ∑ i, x i * y i = r := by
  choose p hp using hx
  choose q hq using hy
  refine ⟨∑ i, p i * q i, ?_⟩
  rw [← coe_sum]
  exact Finset.sum_congr rfl fun i _ => by rw [hp, hq, EReal.coe_mul]

/-- The exponentials of a row: real, none negative, and with a positive sum. -/
theorem row_exps (r : Fin 576 → EReal) (ht : ∀ k, r k ≠ ⊤) (hb : ∃ k, r k ≠ ⊥) :
    ∃ p : Fin 576 → ℝ, (∀ k, pe r k = (p k : EReal)) ∧ 0 < ∑ k, p k := by
  obtain ⟨k0, -, hk0⟩ := Finset.exists_mem_eq_sup (Finset.univ : Finset (Fin 576)) Finset.univ_nonempty r
  obtain ⟨k1, hk1⟩ := hb
  have hM : Finset.univ.sup r ≠ ⊥ := fun h => hk1 (le_bot_iff.mp (h ▸ Finset.le_sup (Finset.mem_univ k1)))
  have hMt : Finset.univ.sup r ≠ ⊤ := by rw [hk0]; exact ht k0
  lift Finset.univ.sup r to ℝ using ⟨hMt, hM⟩ with M hMe
  have hx : ∀ k, ∃ x : ℝ, pe r k = (x : EReal) ∧ 0 ≤ x := by
    intro k
    rw [pe, ← hMe]
    by_cases hk : r k = ⊥
    · refine ⟨0, ?_, le_refl 0⟩
      rw [hk, EReal.bot_sub, Ideal.exp_bot]
      rfl
    · have hk' := ht k
      lift r k to ℝ using ⟨hk', hk⟩ with y
      exact ⟨Real.exp (y - M), by rw [← EReal.coe_sub, Ideal.exp_coe], (Real.exp_pos _).le⟩
  choose p hp hp0 using hx
  refine ⟨p, hp, Finset.sum_pos' (fun k _ => hp0 k) ⟨k0, Finset.mem_univ _, ?_⟩⟩
  have h1 := hp k0
  rw [pe, ← hMe, ← hk0, ← EReal.coe_sub, Ideal.exp_coe] at h1
  rw [← EReal.coe_eq_coe_iff.mp h1]
  exact Real.exp_pos _

/-- The tile's 768 columns hold the band's 576 keys; the others are scored minus infinity. -/
theorem att_band (s v : Fin 768 → EReal) (r w : Fin 576 → EReal) (a : ℕ) (ha : a ≤ 3)
    (hin : ∀ k : Fin 576, s ⟨64 * a + k, by omega⟩ = r k)
    (hout : ∀ j : Fin 768, (j : ℕ) < 64 * a ∨ 64 * a + 576 ≤ (j : ℕ) → s j = ⊥)
    (hv : ∀ k : Fin 576, r k = ⊥ ∨ v ⟨64 * a + k, by omega⟩ = w k)
    (ht : ∀ k, r k ≠ ⊤) (hb : ∃ k, r k ≠ ⊥) (hw : ∀ k, ∃ x : ℝ, w k = x) :
    att s v = ∑ k, Ideal.div (pe r k) (∑ x, pe r x) * w k := by
  have hinj : Function.Injective (fun k : Fin 576 => (⟨64 * a + k, by omega⟩ : Fin 768)) := fun k k' h => by
    have := congrArg Fin.val h
    simp only at this
    exact Fin.ext (by omega)
  have hmem : ∀ j : Fin 768, j ∉ Set.range (fun k : Fin 576 => (⟨64 * a + k, by omega⟩ : Fin 768)) → s j = ⊥ := by
    intro j hj
    refine hout j ?_
    by_contra hc
    exact hj ⟨⟨j - 64 * a, by omega⟩, Fin.ext (by show 64 * a + ((j : ℕ) - 64 * a) = j; omega)⟩
  have hsup : Finset.univ.sup s = Finset.univ.sup r := by
    refine le_antisymm (Finset.sup_le fun j _ => ?_) (Finset.sup_le fun k _ => ?_)
    · by_cases hj : j ∈ Set.range (fun k : Fin 576 => (⟨64 * a + k, by omega⟩ : Fin 768))
      · obtain ⟨k, rfl⟩ := hj
        simp only [hin]
        exact Finset.le_sup (Finset.mem_univ k)
      · rw [hmem j hj]
        exact bot_le
    · rw [← hin]
      exact Finset.le_sup (Finset.mem_univ _)
  have hpe : ∀ k : Fin 576, pe r k = pexp s ⟨64 * a + k, by omega⟩ := fun k => by rw [pe, pexp, hin, hsup]
  have hz : ∀ j : Fin 768, j ∉ Set.range (fun k : Fin 576 => (⟨64 * a + k, by omega⟩ : Fin 768)) → pexp s j = 0 := fun j hj => by
    rw [pexp, hmem j hj, EReal.bot_sub, Ideal.exp_bot]
  have hden : ∑ j, pexp s j = ∑ k, pe r k :=
    (Fintype.sum_of_injective _ hinj _ _ hz hpe).symm
  have hnum : ∑ j, pexp s j * v j = ∑ k, pe r k * w k := by
    refine (Fintype.sum_of_injective _ hinj _ _ (fun j hj => by rw [hz j hj, zero_mul]) fun k => ?_).symm
    rcases hv k with h | h
    · have h0 : pe r k = 0 := by rw [pe, h, EReal.bot_sub, Ideal.exp_bot]
      rw [← hpe, h0, zero_mul, zero_mul]
    · rw [hpe, h]
  rw [att, hden, hnum]
  obtain ⟨p, hp, hpos⟩ := row_exps r ht hb
  choose q hq using hw
  simp only [hp, hq, ← EReal.coe_mul, coe_sum, Ideal.div_coe hpos.ne']
  refine congrArg _ ?_
  rw [Finset.sum_mul]
  exact Finset.sum_congr rfl fun k _ => by ring

/-- A band's nine chunks of 64 keys are its 576 keys. -/
theorem sum_chunks (g : Fin 576 → EReal) : ∑ k : Fin 9, ∑ d : Fin 64, g ⟨64 * k + d, by omega⟩ = ∑ k, g k := by
  rw [← Fintype.sum_prod_type']
  refine Fintype.sum_equiv (finProdFinEquiv (m := 9) (n := 64)) _ _ fun x => congrArg g (Fin.ext ?_)
  show 64 * (x.1 : ℕ) + x.2 = x.2 + 64 * x.1
  omega

theorem sum_nine (g : Fin 9 → EReal) : ∑ k, g k = g 0 + g 1 + g 2 + g 3 + g 4 + g 5 + g 6 + g 7 + g 8 := by
  rw [Fin.sum_univ_castSucc, Fin.sum_univ_eight]
  rfl
end Cert.Pure
-- ==== Proof.Join.lean ====
module

public import proofs.«01_k».proof.Proof.Arr
public import proofs.«01_k».proof.Proof.Pure

@[expose] public section

set_option maxRecDepth 16384
noncomputable section

namespace Cert.Pure
open Idealize.ShloMosaic Cert.KernelIdeal.Tile Cert.ReferenceIdeal.Read

variable (V : Valuation Cert.ReferenceIdeal.τ Cert.ReferenceIdeal.sig (Elt Ideal))

/-- The bias of the tile: the table inside the band, minus infinity outside. -/
def biasOf (h : Fin 8) (r : Fin 256) (j : Fin 768) : EReal :=
  if (r : ℕ) / 64 ≤ j / 64 ∧ (j : ℕ) / 64 ≤ r / 64 + 8 then (T V (ix2 h ⟨min ((j : ℕ) - (r + 384)) 191, by omega⟩) : EReal) else (⊥ : EReal)

variable (B : Vec Ideal Cert.KernelIdeal.S8x256x768 .f32) (hB : ∀ h r j, (B (ix3 h r j) : EReal) = biasOf V h r j)
include hB

theorem sc_in (R : Fin 32768) (h : Fin 8) (k : Fin 576) :
    sc (X V) B R h ⟨64 * ((R : ℕ) % 256 / 64) + k, by omega⟩
      = row V ⟨R / 8192, by omega⟩ h ⟨R % 8192 / 64, by omega⟩ ⟨R % 64, by omega⟩ k := by
  have hR := R.isLt
  have hk := k.isLt
  have e : (256 * ((R : ℕ) % 8192 / 256) + (64 * ((R : ℕ) % 256 / 64) + (k : ℕ)) < 512) ↔ ((R : ℕ) % 8192 / 64 + (k : ℕ) / 64 < 8) := by omega
  rw [sc, row]
  refine if_ctx_congr e (fun _ => rfl) fun hn => ?_
  rw [raw, hB, biasOf, if_pos (by constructor <;> (simp only; omega))]
  refine congrArg₂ (fun x y : EReal => x + y) (Finset.sum_congr rfl fun d _ => ?_) ?_
  · have hn' : ¬ ((k : ℕ) / 64 + (R : ℕ) % 8192 / 64 < 8) := by simp only at hn; omega
    have e5 := v5_at V ⟨R / 8192, by omega⟩ h ⟨R % 8192 / 64, by omega⟩ ⟨R % 64, by omega⟩ d
    have e8 := v8_at V ⟨R / 8192, by omega⟩ h ⟨(k : ℕ) / 64 + (R : ℕ) % 8192 / 64, by omega⟩ ⟨(k : ℕ) % 64, by omega⟩ d
    rw [if_neg hn'] at e8
    refine congrArg₂ (fun x y : EReal => x * y) (Eq.trans ?_ e5.symm) (Eq.trans ?_ e8.symm)
    · refine congrArg (X V) (congrArg₂ ix2 (Fin.ext ?_) rfl)
      show (R : ℕ) = 8192 * (R / 8192) + 64 * (R % 8192 / 64) + R % 64
      omega
    · refine congrArg (X V) (congrArg₂ ix2 (Fin.ext ?_) rfl)
      show 8192 * ((R : ℕ) / 8192) + (256 * (R % 8192 / 256) + (64 * (R % 256 / 64) + k) - 512)
        = 8192 * (R / 8192) + 64 * ((k : ℕ) / 64 + (R : ℕ) % 8192 / 64 - 8) + k % 64
      omega
  · refine congrArg (T V) (congrArg₂ ix2 rfl (Fin.ext ?_))
    show min (64 * ((R : ℕ) % 256 / 64) + k - (R % 256 + 384)) 191 = min (64 * ((k : ℕ) / 64) + k % 64 - (R % 64 + 384)) 191
    omega

theorem sc_out (R : Fin 32768) (h : Fin 8) (j : Fin 768)
    (hj : (j : ℕ) < 64 * ((R : ℕ) % 256 / 64) ∨ 64 * ((R : ℕ) % 256 / 64) + 576 ≤ (j : ℕ)) : sc (X V) B R h j = ⊥ := by
  have hR := R.isLt
  have hjj := j.isLt
  rw [sc]
  split
  · rfl
  · rw [hB, biasOf, if_neg (by simp only; omega), EReal.add_bot]

variable (hX : ∀ i, ∃ x : ℝ, (X V i : EReal) = x) (hT : ∀ i, ∃ x : ℝ, (T V i : EReal) = x)

omit hB in
include hX hT in
theorem raw_real (b : Fin 4) (h : Fin 8) (n : Fin 128) (c : Fin 64) (k : Fin 9) (d : Fin 64) : ∃ x : ℝ, raw V b h n c k d = x := by
  rw [raw]
  obtain ⟨p, hp⟩ := real_dot (fun x : Fin 64 => Qs V (ix5 b h n c x)) (fun x => Ks V (ix5 b h ⟨k + n, by omega⟩ d x))
    (fun x => by
      obtain ⟨y, hy⟩ := hX (ix2 ⟨8192 * b + 64 * n + c, by omega⟩ ⟨64 * h + x, by omega⟩)
      exact ⟨y, (v5_at V b h n c x).trans hy⟩)
    (fun x => by
      by_cases hn : (k : ℕ) + n < 8
      · exact ⟨0, (v8_at V b h ⟨k + n, by omega⟩ d x).trans (if_pos hn)⟩
      · obtain ⟨y, hy⟩ := hX (ix2 ⟨8192 * b + 64 * ((k + n : ℕ) - 8) + d, by omega⟩ ⟨512 + (64 * h + x), by omega⟩)
        exact ⟨y, ((v8_at V b h ⟨k + n, by omega⟩ d x).trans (if_neg hn)).trans hy⟩)
  obtain ⟨q, hq⟩ := hT (ix2 h ⟨min (64 * (k : ℕ) + d - (c + 384)) 191, by omega⟩)
  exact ⟨p + q, by rw [hp, hq, EReal.coe_add]⟩

/-- The values, split by sequence, head and chunk, after eight chunks of zeros. -/
abbrev Vs : Cert.ReferenceIdeal.S4x8x136x64x64.Idx → EReal := Cert.ReferenceIdeal.Value.res_main_v11 V

include hX hT in
/-- The kernel's result at a row and a lane is the band's weighted values. -/
theorem spec_eq (R : Fin 32768) (L : Fin 512) :
    spec (X V) B R L = ∑ k : Fin 9, ∑ d : Fin 64,
      weight V ⟨R / 8192, by omega⟩ ⟨L / 64, by omega⟩ ⟨R % 8192 / 64, by omega⟩ ⟨R % 64, by omega⟩ k d
        * Vs V (ix5 ⟨R / 8192, by omega⟩ ⟨L / 64, by omega⟩ ⟨k + R % 8192 / 64, by omega⟩ d ⟨L % 64, by omega⟩) := by
  have hR := R.isLt
  have hL := L.isLt
  have hvs : ∀ (k : Fin 9) (d : Fin 64), Vs V (ix5 ⟨R / 8192, by omega⟩ ⟨L / 64, by omega⟩ ⟨k + R % 8192 / 64, by omega⟩ d ⟨L % 64, by omega⟩)
      = if (k : ℕ) + R % 8192 / 64 < 8 then (0 : EReal) else X V (ix2 ⟨8192 * (R / 8192) + 64 * ((k : ℕ) + R % 8192 / 64 - 8) + d, by omega⟩ ⟨1024 + (64 * (L / 64) + L % 64), by omega⟩) :=
    fun k d => v11_at V _ _ _ _ _
  have hk9 : ∀ k : Fin 576, (k : ℕ) / 64 < 9 := fun k => by omega
  rw [spec, att_band _ _ (row V ⟨R / 8192, by omega⟩ ⟨L / 64, by omega⟩ ⟨R % 8192 / 64, by omega⟩ ⟨R % 64, by omega⟩)
    (fun k => Vs V (ix5 ⟨R / 8192, by omega⟩ ⟨L / 64, by omega⟩ ⟨(k : ℕ) / 64 + R % 8192 / 64, by omega⟩ ⟨(k : ℕ) % 64, by omega⟩ ⟨L % 64, by omega⟩))
    ((R : ℕ) % 256 / 64) (by omega) (sc_in V B hB R _) (sc_out V B hB R _), ← sum_chunks]
  · refine Finset.sum_congr rfl fun k _ => Finset.sum_congr rfl fun d _ => ?_
    refine congrArg₂ (fun x y : EReal => x * y) rfl (congrArg (Vs V) ?_)
    have e1 : (64 * (k : ℕ) + d) / 64 = k := by omega
    have e2 : (64 * (k : ℕ) + d) % 64 = d := by omega
    have f1 : (⟨(64 * (k : ℕ) + d) / 64 + R % 8192 / 64, by omega⟩ : Fin 136) = ⟨k + R % 8192 / 64, by omega⟩ := Fin.ext (congrArg (fun t : ℕ => t + (R : ℕ) % 8192 / 64) e1)
    have f2 : (⟨(64 * (k : ℕ) + d) % 64, by omega⟩ : Fin 64) = d := Fin.ext e2
    show ix5 _ _ (⟨(64 * (k : ℕ) + d) / 64 + R % 8192 / 64, by omega⟩ : Fin 136) (⟨(64 * (k : ℕ) + d) % 64, by omega⟩ : Fin 64) _ = _
    rw [f1, f2]
  · intro k
    by_cases hn : (k : ℕ) / 64 + R % 8192 / 64 < 8
    · left
      rw [row, if_pos (by simp only; omega)]
    · right
      refine Eq.trans ?_ ((hvs ⟨(k : ℕ) / 64, hk9 k⟩ ⟨(k : ℕ) % 64, by omega⟩).trans (if_neg hn)).symm
      refine congrArg (X V) (congrArg₂ ix2 (Fin.ext ?_) (Fin.ext ?_))
      · show 8192 * ((R : ℕ) / 8192) + (256 * (R % 8192 / 256) + (64 * (R % 256 / 64) + k) - 512)
          = 8192 * (R / 8192) + 64 * ((k : ℕ) / 64 + (R : ℕ) % 8192 / 64 - 8) + k % 64
        omega
      · show 1024 + (L : ℕ) = 1024 + (64 * (L / 64) + L % 64)
        omega
  · intro k
    rw [row]
    split
    · exact bot_ne_top
    · obtain ⟨x, hx⟩ := raw_real V hX hT ⟨R / 8192, by omega⟩ ⟨L / 64, by omega⟩ ⟨R % 8192 / 64, by omega⟩ ⟨R % 64, by omega⟩ ⟨(k : ℕ) / 64, by omega⟩ ⟨(k : ℕ) % 64, by omega⟩
      rw [hx]
      exact EReal.coe_ne_top x
  · refine ⟨⟨512, by omega⟩, ?_⟩
    rw [row, if_neg (by simp only; omega)]
    obtain ⟨x, hx⟩ := raw_real V hX hT ⟨R / 8192, by omega⟩ ⟨L / 64, by omega⟩ ⟨R % 8192 / 64, by omega⟩ ⟨R % 64, by omega⟩ ⟨512 / 64, by omega⟩ ⟨512 % 64, by omega⟩
    exact fun h => EReal.coe_ne_bot x (hx.symm.trans h)
  · intro k
    have := hvs ⟨(k : ℕ) / 64, hk9 k⟩ ⟨(k : ℕ) % 64, by omega⟩
    by_cases hn : (k : ℕ) / 64 + R % 8192 / 64 < 8
    · exact ⟨0, this.trans (if_pos hn)⟩
    · obtain ⟨x, hx⟩ := hX (ix2 ⟨8192 * (R / 8192) + 64 * ((k : ℕ) / 64 + R % 8192 / 64 - 8) + (k : ℕ) % 64, by omega⟩ ⟨1024 + (64 * (L / 64) + L % 64), by omega⟩)
      exact ⟨x, (this.trans (if_neg hn)).trans hx⟩
end Cert.Pure
-- ==== Proof.Out.lean ====
module

public import proofs.«01_k».proof.Proof.Join

@[expose] public section

set_option maxRecDepth 16384
noncomputable section

namespace Cert.ReferenceIdeal.Read
open Cert.ReferenceIdeal Cert.ReferenceIdeal.Gen Cert.ReferenceIdeal.Value Idealize.ShloMosaic Idealize.ShloMosaic.TcCoe Idealize.SL.Sem
open Idealize.ShloMosaic.StableHlo Cert.KernelIdeal.Tile

/-- The band's weighted values, one chunk of the band after another, put back in rows. -/
def out (P : FVec Ideal S4x8x128x64x9x64 .f32) (W : FVec Ideal S4x8x136x64x64 .f32) : FVec Ideal S32768x512 .bf16 :=
  truncf .bf16 (shapeCast _ (transpose S4x128x64x8x64 [0, 2, 3, 1, 4] (addf (addf (addf (addf (addf (addf (addf (addf (Host.dotGeneral dot_S4x8x128x64x64_S4x8x128x64x64_S4x8x128x64x64_4_3_3_4_012_012 none (shapeCast _ (extractStridedSlice S4x8x128x64x1x64 ![0, 0, 0, 0, 0, 0] P slices_S4x8x128x64x9x64_S4x8x128x64x1x64_0_0_0_0_0_0) shapeCasts_S4x8x128x64x1x64_S4x8x128x64x64) (extractStridedSlice S4x8x128x64x64 ![0, 0, 0, 0, 0] W slices_S4x8x136x64x64_S4x8x128x64x64_0_0_0_0_0)) (Host.dotGeneral dot_S4x8x128x64x64_S4x8x128x64x64_S4x8x128x64x64_4_3_3_4_012_012 none (shapeCast _ (extractStridedSlice S4x8x128x64x1x64 ![0, 0, 0, 0, 1, 0] P slices_S4x8x128x64x9x64_S4x8x128x64x1x64_0_0_0_0_1_0) shapeCasts_S4x8x128x64x1x64_S4x8x128x64x64) (extractStridedSlice S4x8x128x64x64 ![0, 0, 1, 0, 0] W slices_S4x8x136x64x64_S4x8x128x64x64_0_0_1_0_0))) (Host.dotGeneral dot_S4x8x128x64x64_S4x8x128x64x64_S4x8x128x64x64_4_3_3_4_012_012 none (shapeCast _ (extractStridedSlice S4x8x128x64x1x64 ![0, 0, 0, 0, 2, 0] P slices_S4x8x128x64x9x64_S4x8x128x64x1x64_0_0_0_0_2_0) shapeCasts_S4x8x128x64x1x64_S4x8x128x64x64) (extractStridedSlice S4x8x128x64x64 ![0, 0, 2, 0, 0] W slices_S4x8x136x64x64_S4x8x128x64x64_0_0_2_0_0))) (Host.dotGeneral dot_S4x8x128x64x64_S4x8x128x64x64_S4x8x128x64x64_4_3_3_4_012_012 none (shapeCast _ (extractStridedSlice S4x8x128x64x1x64 ![0, 0, 0, 0, 3, 0] P slices_S4x8x128x64x9x64_S4x8x128x64x1x64_0_0_0_0_3_0) shapeCasts_S4x8x128x64x1x64_S4x8x128x64x64) (extractStridedSlice S4x8x128x64x64 ![0, 0, 3, 0, 0] W slices_S4x8x136x64x64_S4x8x128x64x64_0_0_3_0_0))) (Host.dotGeneral dot_S4x8x128x64x64_S4x8x128x64x64_S4x8x128x64x64_4_3_3_4_012_012 none (shapeCast _ (extractStridedSlice S4x8x128x64x1x64 ![0, 0, 0, 0, 4, 0] P slices_S4x8x128x64x9x64_S4x8x128x64x1x64_0_0_0_0_4_0) shapeCasts_S4x8x128x64x1x64_S4x8x128x64x64) (extractStridedSlice S4x8x128x64x64 ![0, 0, 4, 0, 0] W slices_S4x8x136x64x64_S4x8x128x64x64_0_0_4_0_0))) (Host.dotGeneral dot_S4x8x128x64x64_S4x8x128x64x64_S4x8x128x64x64_4_3_3_4_012_012 none (shapeCast _ (extractStridedSlice S4x8x128x64x1x64 ![0, 0, 0, 0, 5, 0] P slices_S4x8x128x64x9x64_S4x8x128x64x1x64_0_0_0_0_5_0) shapeCasts_S4x8x128x64x1x64_S4x8x128x64x64) (extractStridedSlice S4x8x128x64x64 ![0, 0, 5, 0, 0] W slices_S4x8x136x64x64_S4x8x128x64x64_0_0_5_0_0))) (Host.dotGeneral dot_S4x8x128x64x64_S4x8x128x64x64_S4x8x128x64x64_4_3_3_4_012_012 none (shapeCast _ (extractStridedSlice S4x8x128x64x1x64 ![0, 0, 0, 0, 6, 0] P slices_S4x8x128x64x9x64_S4x8x128x64x1x64_0_0_0_0_6_0) shapeCasts_S4x8x128x64x1x64_S4x8x128x64x64) (extractStridedSlice S4x8x128x64x64 ![0, 0, 6, 0, 0] W slices_S4x8x136x64x64_S4x8x128x64x64_0_0_6_0_0))) (Host.dotGeneral dot_S4x8x128x64x64_S4x8x128x64x64_S4x8x128x64x64_4_3_3_4_012_012 none (shapeCast _ (extractStridedSlice S4x8x128x64x1x64 ![0, 0, 0, 0, 7, 0] P slices_S4x8x128x64x9x64_S4x8x128x64x1x64_0_0_0_0_7_0) shapeCasts_S4x8x128x64x1x64_S4x8x128x64x64) (extractStridedSlice S4x8x128x64x64 ![0, 0, 7, 0, 0] W slices_S4x8x136x64x64_S4x8x128x64x64_0_0_7_0_0))) (Host.dotGeneral dot_S4x8x128x64x64_S4x8x128x64x64_S4x8x128x64x64_4_3_3_4_012_012 none (shapeCast _ (extractStridedSlice S4x8x128x64x1x64 ![0, 0, 0, 0, 8, 0] P slices_S4x8x128x64x9x64_S4x8x128x64x1x64_0_0_0_0_8_0) shapeCasts_S4x8x128x64x1x64_S4x8x128x64x64) (extractStridedSlice S4x8x128x64x64 ![0, 0, 8, 0, 0] W slices_S4x8x136x64x64_S4x8x128x64x64_0_0_8_0_0))) transposes_S4x8x128x64x64_S4x128x64x8x64_0_2_3_1_4) shapeCasts_S4x128x64x8x64_S32768x512) bitsLt_bf16_f32

/-- One chunk's product. -/
def part (P : S4x8x128x64x9x64.Idx → EReal) (W : S4x8x136x64x64.Idx → EReal) (b : Fin 4) (h : Fin 8) (n : Fin 128) (c e : Fin 64) (k : Fin 9) : EReal :=
  ∑ x : Fin 64, P (ix6 b h n c k x) * W (ix5 b h ⟨k + n, by omega⟩ x e)

theorem out_at (P : FVec Ideal S4x8x128x64x9x64 .f32) (W : FVec Ideal S4x8x136x64x64 .f32) (R : Fin 32768) (L : Fin 512) :
    (out P W (ix2 R L) : EReal) = ∑ k : Fin 9, part P W ⟨R / 8192, by omega⟩ ⟨L / 64, by omega⟩ ⟨R % 8192 / 64, by omega⟩ ⟨R % 64, by omega⟩ ⟨L % 64, by omega⟩ k := by
  rw [Cert.Pure.sum_nine]
  pointwise [out]
  have hR := R.isLt
  have hn : (R : ℕ) / 64 % 128 = R % 8192 / 64 := by omega
  have go : ∀ (b : Fin 4) (h : Fin 8) (n n' : Fin 128) (c e : Fin 64) (k : Fin 9) (i : ℕ) (hi : i < 136), (n : ℕ) = n' → i = k + (n' : ℕ) →
      (∑ x : Fin 64, (P (ix6 b h n c k x) : EReal) * W (ix5 b h ⟨i, hi⟩ x e)) = part P W b h n' c e k := by
    intro b h n n' c e k i hi e1 e2
    obtain rfl := Fin.ext e1
    subst e2
    rfl
  have hz : (R : ℕ) / 64 % 128 = 0 + R % 8192 / 64 := by omega
  refine congrArg₂ (fun x y : EReal => x + y) ?_ (go _ _ _ _ _ _ 8 _ _ hn (congrArg (fun t : ℕ => 8 + t) hn))
  refine congrArg₂ (fun x y : EReal => x + y) ?_ (go _ _ _ _ _ _ 7 _ _ hn (congrArg (fun t : ℕ => 7 + t) hn))
  refine congrArg₂ (fun x y : EReal => x + y) ?_ (go _ _ _ _ _ _ 6 _ _ hn (congrArg (fun t : ℕ => 6 + t) hn))
  refine congrArg₂ (fun x y : EReal => x + y) ?_ (go _ _ _ _ _ _ 5 _ _ hn (congrArg (fun t : ℕ => 5 + t) hn))
  refine congrArg₂ (fun x y : EReal => x + y) ?_ (go _ _ _ _ _ _ 4 _ _ hn (congrArg (fun t : ℕ => 4 + t) hn))
  refine congrArg₂ (fun x y : EReal => x + y) ?_ (go _ _ _ _ _ _ 3 _ _ hn (congrArg (fun t : ℕ => 3 + t) hn))
  refine congrArg₂ (fun x y : EReal => x + y) ?_ (go _ _ _ _ _ _ 2 _ _ hn (congrArg (fun t : ℕ => 2 + t) hn))
  exact congrArg₂ (fun x y : EReal => x + y) (go _ _ _ _ _ _ 0 _ _ hn hz) (go _ _ _ _ _ _ 1 _ _ hn (congrArg (fun t : ℕ => 1 + t) hn))

/-- From finite arguments, the reference's result is the kernel's. -/
theorem out_eq (V : Valuation τ sig (Elt Ideal)) (B : Vec Ideal Cert.KernelIdeal.S8x256x768 .f32)
    (hB : ∀ h r j, (B (ix3 h r j) : EReal) = Cert.Pure.biasOf V h r j)
    (hX : ∀ i, ∃ x : ℝ, (X V i : EReal) = x) (hT : ∀ i, ∃ x : ℝ, (T V i : EReal) = x) (R : Fin 32768) (L : Fin 512) :
    (out (res_main_v92 V) (res_main_v11 V) (ix2 R L) : EReal) = spec (X V) B R L := by
  rw [Cert.Pure.spec_eq V B hB hX hT R L]
  refine (out_at (res_main_v92 V) (res_main_v11 V) R L).trans (Finset.sum_congr rfl fun k _ => Finset.sum_congr rfl fun d _ => ?_)
  exact congrArg₂ (fun x y : EReal => x * y) (v92_at V _ _ _ _ k d) rfl

end Cert.ReferenceIdeal.Read
-- ==== Proof.In.lean ====
module

public import proofs.«01_k».proof.Proof.Gen.Kernel2Ideal.Value
public import Idealize.ShloMosaic.Lib.Pointwise

@[expose] public section

set_option maxRecDepth 16384
noncomputable section

namespace Cert.Kernel2Ideal.In
open Cert.Kernel2Ideal Cert.Kernel2Ideal.Gen Idealize.ShloMosaic Idealize.ShloMosaic.TcCoe Idealize.SL.Sem

/-- One row normalised: its entries over the root of their mean square, times the gains. -/
def hid (x g : Fin 1024 → EReal) (k : Fin 1024) : EReal :=
  x k * Ideal.rsqrt (Ideal.div (∑ i, x i * x i) (Ideal.ofBits .f32 0x44800000#32) + Ideal.ofBits .f32 0x358637BD#32) * g k

/-- One column of the projection of a normalised row. -/
def proj (x g w : Fin 1024 → EReal) : EReal := ∑ k, hid x g k * w k

theorem proj_congr {x x' g g' w w' : Fin 1024 → EReal} (hx : ∀ i, x i = x' i) (hg : ∀ i, g i = g' i) (hw : ∀ i, w i = w' i) : proj x g w = proj x' g' w' := by
  rw [funext hx, funext hg, funext hw]

/-- One head's 64 lanes normalised, before the gains. -/
def head (p : Fin 64 → EReal) (d : Fin 64) : EReal :=
  p d * Ideal.rsqrt ((∑ i, p i * p i) * Ideal.ofBits .f32 0x3C800000#32 + Ideal.ofBits .f32 0x358637BD#32)

/-- The same with the gains, of the head that starts 64 lanes a head after lane `o` of the projections `p`. -/
def normed (p : Fin 1536 → EReal) (g : Fin 64 → EReal) (o : ℕ) (ho : o ≤ 512) (j : Fin 512) : EReal :=
  head (fun d => p ⟨o + (j / 64 * 64 + d), by omega⟩) ⟨j % 64, by omega⟩ * g ⟨j % 64, by omega⟩

/-- A row's queries, keys and values from its projections: queries normalised and scaled, keys normalised, values as they are. -/
def qkv (p : Fin 1536 → EReal) (qg kg : Fin 64 → EReal) (L : Fin 1536) : EReal :=
  if h : (L : ℕ) < 512 then normed p qg 0 (by decide) ⟨L, h⟩ * Ideal.ofBits .f32 0x3E000000#32
  else if h : (L : ℕ) - 512 < 512 then normed p kg 512 (by decide) ⟨L - 512, h⟩
  else p ⟨1024 + (L - 512 - 512), by omega⟩

theorem normed_congr {p p' : Fin 1536 → EReal} (h : ∀ i, p i = p' i) (g : Fin 64 → EReal) (o : ℕ) (ho : o ≤ 512) (j : Fin 512) : normed p g o ho j = normed p' g o ho j := by
  rw [funext h]

theorem qkv_congr {p p' : Fin 1536 → EReal} {qg qg' kg kg' : Fin 64 → EReal} (h : ∀ i, p i = p' i) (hq : ∀ i, qg i = qg' i) (hk : ∀ i, kg i = kg' i) (L : Fin 1536) :
    qkv p qg kg L = qkv p' qg' kg' L := by
  rw [funext h, funext hq, funext hk]

theorem pay5_at (x : FVec Ideal S1024x1024 .f32) (g : FVec Ideal S1x1024 .f32) (r k : Fin 1024) :
    (k0_pay5 (F := Ideal) x g (ix2 r k) : EReal) = hid (fun i => x (ix2 r i)) (fun i => g (ix2 0 i)) k := by
  pointwise [k0_pay5]
  rfl

theorem pay6_at (x : FVec Ideal S1024x1024 .f32) (g : FVec Ideal S1x1024 .f32) (w : FVec Ideal S1024x1536 .bf16) (r : Fin 1024) (j : Fin 1536) :
    (k0_pay6 (F := Ideal) x g w (ix2 r j) : EReal) = proj (fun i => x (ix2 r i)) (fun i => g (ix2 0 i)) (fun i => w (ix2 i j)) := by
  pointwise [k0_pay6]
  exact Finset.sum_congr rfl fun k _ => congrArg (fun y : EReal => y * w (ix2 k j)) (pay5_at x g r k)

theorem pay4_at (h : FVec Ideal S1024x1024 .bf16) (w : FVec Ideal S1024x1792 .bf16) (r : Fin 1024) (j : Fin 1792) :
    (k0_pay4 (F := Ideal) h w (ix2 r j) : EReal) = ∑ k, h (ix2 r k) * w (ix2 k j) := by
  pointwise [k0_pay4]

theorem pay3_at (q : FVec Ideal S1024x1536 .f32) (r : Fin 1024) (j : Fin 512) :
    (k0_pay3 (F := Ideal) q (ix2 r j) : EReal) = q (ix2 r ⟨1024 + j, by omega⟩) := by
  pointwise [k0_pay3]

/-- A sum over 256 lanes masked to one head of 64 is the sum over that head. -/
theorem sum_head (f : Fin 256 → EReal) (b : Fin 256 → EReal) (a : Fin 4) (hb : ∀ x : Fin 256, b x = if (x : ℕ) / 64 = a then 1 else 0) :
    ∑ x, f x * b x = ∑ d : Fin 64, f ⟨a * 64 + d, by omega⟩ := by
  have ev : ∀ (c : Fin 4) (d : Fin 64), ((finProdFinEquiv (m := 4) (n := 64) (c, d) : Fin 256) : ℕ) = d + 64 * c := fun _ _ => rfl
  rw [← Equiv.sum_comp (finProdFinEquiv (m := 4) (n := 64)) (fun x : Fin 256 => f x * b x), Fintype.sum_prod_type, Finset.sum_eq_single a]
  · refine Finset.sum_congr rfl fun d _ => ?_
    rw [hb, if_pos (by rw [ev]; omega), mul_one]
    exact congrArg f (Fin.ext (by rw [ev]; show _ = (a : ℕ) * 64 + d; omega))
  · intro c _ hc
    refine Finset.sum_eq_zero fun d _ => ?_
    rw [hb, if_neg (fun h => hc (Fin.ext (by rw [ev] at h; omega))), mul_zero]
  · exact fun h => absurd (Finset.mem_univ a) h

/-- The sum of squares over a lane's head, in either half of the 512 lanes. -/
theorem ss_at (p : Fin 1536 → EReal) (bd : FVec Ideal S256x256 .bf16) (o : ℕ) (ho : o ≤ 512) (j : Fin 512)
    (hbd : ∀ a b : Fin 256, (bd (ix2 a b) : EReal) = if (a : ℕ) / 64 = b / 64 then 1 else 0) :
    (if h : (j : ℕ) < 256 then ∑ x : Fin 256, p ⟨o + x, by omega⟩ * p ⟨o + x, by omega⟩ * bd (ix2 x ⟨j, h⟩)
      else ∑ x : Fin 256, p ⟨o + (256 + x), by omega⟩ * p ⟨o + (256 + x), by omega⟩ * bd (ix2 x ⟨j - 256, by omega⟩))
    = ∑ d : Fin 64, p ⟨o + (j / 64 * 64 + d), by omega⟩ * p ⟨o + (j / 64 * 64 + d), by omega⟩ := by
  split
  · rename_i h
    exact sum_head (fun x => p ⟨o + x, by omega⟩ * p ⟨o + x, by omega⟩) (fun x => bd (ix2 x ⟨j, h⟩)) ⟨j / 64, by omega⟩ (fun x => hbd _ _)
  · rename_i h
    refine (sum_head (fun x => p ⟨o + (256 + x), by omega⟩ * p ⟨o + (256 + x), by omega⟩) (fun x => bd (ix2 x ⟨j - 256, by omega⟩))
      ⟨(j - 256) / 64, by omega⟩ (fun x => hbd _ _)).trans (Finset.sum_congr rfl fun d _ => ?_)
    have e : o + (256 + (((j : ℕ) - 256) / 64 * 64 + (d : ℕ))) = o + (j / 64 * 64 + d) := by omega
    have e' : (⟨o + (256 + (((j : ℕ) - 256) / 64 * 64 + (d : ℕ))), by omega⟩ : Fin 1536) = ⟨o + (j / 64 * 64 + d), by omega⟩ := Fin.ext e
    exact congrArg₂ (fun x y : EReal => x * y) (congrArg p e') (congrArg p e')

theorem pay2_at (q : FVec Ideal S1024x1536 .f32) (bd : FVec Ideal S256x256 .bf16) (g : FVec Ideal S1x512 .f32) (r : Fin 1024) (j : Fin 512)
    (hbd : ∀ a b : Fin 256, (bd (ix2 a b) : EReal) = if (a : ℕ) / 64 = b / 64 then 1 else 0) (g' : Fin 64 → EReal) (hg : g (ix2 0 j) = g' ⟨j % 64, by omega⟩) :
    (k0_pay2 (F := Ideal) q bd g (ix2 r j) : EReal) = normed (fun i => q (ix2 r i)) g' 512 (by decide) j := by
  pointwise [k0_pay2]
  have e := ss_at (fun i => q (ix2 r i)) bd 512 (by decide) j hbd
  have e' : (⟨512 + ((j : ℕ) / 64 * 64 + (j : ℕ) % 64), by omega⟩ : Fin 1536) = ⟨512 + j, by omega⟩ := Fin.ext (by show 512 + _ = 512 + _; omega)
  simp only [normed, head]
  rw [hg, e']
  exact congrArg (fun s : EReal => q (ix2 r ⟨512 + j, by omega⟩) * Ideal.rsqrt (s * Ideal.ofBits .f32 0x3C800000#32 + Ideal.ofBits .f32 0x358637BD#32) * g' ⟨j % 64, by omega⟩) e

theorem pay1_at (x : FVec Ideal S1024x1024 .f32) (gg : FVec Ideal S1x1024 .f32) (w : FVec Ideal S1024x1536 .bf16) (bd : FVec Ideal S256x256 .bf16) (g : FVec Ideal S1x512 .f32) (s : Ideal .f32) (r : Fin 1024) (j : Fin 512)
    (hbd : ∀ a b : Fin 256, (bd (ix2 a b) : EReal) = if (a : ℕ) / 64 = b / 64 then 1 else 0) (g' : Fin 64 → EReal) (hg : g (ix2 0 j) = g' ⟨j % 64, by omega⟩) :
    (k0_pay1 (F := Ideal) (k0_pay8 x gg w bd g) s (ix2 r j) : EReal) = normed (fun i => k0_pay6 (F := Ideal) x gg w (ix2 r i)) g' 0 (by decide) j * s := by
  pointwise [k0_pay1, k0_pay8, k0_pay7]
  have e := ss_at (fun i => k0_pay6 (F := Ideal) x gg w (ix2 r i)) bd 0 (by decide) j hbd
  have e' : (⟨0 + ((j : ℕ) / 64 * 64 + (j : ℕ) % 64), by omega⟩ : Fin 1536) = ⟨j, by omega⟩ := Fin.ext (by show 0 + ((j : ℕ) / 64 * 64 + (j : ℕ) % 64) = j; omega)
  simp only [normed, head]
  rw [hg, e']
  simp only [Nat.zero_add] at e ⊢
  rw [e]

end Cert.Kernel2Ideal.In
end
-- ==== Proof.InHost.lean ====
module

public import proofs.«01_k».proof.Proof.In
public import Idealize.ShloMosaic.Lib.StableHlo.ReadAt

@[expose] public section

set_option maxRecDepth 16384
noncomputable section

namespace Cert.Kernel2Ideal.In
open Cert.Kernel2Ideal Cert.Kernel2Ideal.Gen Idealize.ShloMosaic Idealize.ShloMosaic.TcCoe Idealize.SL.Sem
variable (m : (ℓ : Loc nD τ sig) → Buf (Elt Ideal) ℓ)

/-- The rows, one after another. -/
theorem x_at (c : Dev nD) (n : Fin 32768) (k : Fin 1024) :
    V m c main_v0 (ix2 n k) = m ((c : Thread nD τ).loc main_arg0) (ix3 ⟨n / 8192, by omega⟩ ⟨n % 8192, by omega⟩ k) := by
  unfold V
  after_reads_at

theorem g_at (c : Dev nD) (k : Fin 1024) : V m c main_v10 (ix2 0 k) = m ((c : Thread nD τ).loc main_arg1) (ix1 k) := by
  unfold V
  after_reads_at

theorem w_at (c : Dev nD) (k : Fin 1024) (j : Fin 3328) : V m c main_v11 (ix2 k j) = m ((c : Thread nD τ).loc main_arg2) (ix2 k j) := by
  unfold V
  after_reads_at

theorem qg_at (c : Dev nD) (j : Fin 512) : V m c main_v15 (ix2 0 j) = m ((c : Thread nD τ).loc main_arg3) (ix1 ⟨j % 64, by omega⟩) := by
  unfold V
  after_reads_at

theorem kg_at (c : Dev nD) (j : Fin 512) : V m c main_v19 (ix2 0 j) = m ((c : Thread nD τ).loc main_arg4) (ix1 ⟨j % 64, by omega⟩) := by
  unfold V
  after_reads_at

/-- The quotient of a lane's index word by 64, rounded down: what the host's floor division computes. -/
theorem quot_at (n : Fin 256) :
  Scalar.select
    (IntOp.andi
      (IntOp.cmpi CmpIPredicate.ne (if BitVec.ofNat 32 n = 0 then (0 : BitVec 32) else if (BitVec.ofNat 32 n).msb = true then -1 else 1)
        (if id (constantI S_ 32 64#32) ix0 = 0 then (0 : BitVec 32)
          else if BitVec.msb (id (constantI S_ 32 64#32) ix0) = true then -1 else 1))
      (IntOp.cmpi CmpIPredicate.ne (IntOp.remsi ArithUnit.host (BitVec.ofNat 32 n) (id (constantI S_ 32 64#32) ix0)) 0#32))
    (IntOp.subi (IntOp.divsi ArithUnit.host (BitVec.ofNat 32 n) (id (constantI S_ 32 64#32) ix0)) 1#32)
    (IntOp.divsi ArithUnit.host (BitVec.ofNat 32 n) (id (constantI S_ 32 64#32) ix0)) = BitVec.ofNat 32 ((n : ℕ) / 64) := by
  revert n
  decide +kernel

theorem quot_raw (n : ℕ) (hn : n < 256) :
  Scalar.select
    (IntOp.andi
      (IntOp.cmpi CmpIPredicate.ne (if BitVec.ofNat 32 n = 0 then (0 : BitVec 32) else if (BitVec.ofNat 32 n).msb = true then -1 else 1)
        (if id (constantI S_ 32 64#32) ix0 = 0 then (0 : BitVec 32)
          else if BitVec.msb (id (constantI S_ 32 64#32) ix0) = true then -1 else 1))
      (IntOp.cmpi CmpIPredicate.ne (IntOp.remsi ArithUnit.host (BitVec.ofNat 32 n) (id (constantI S_ 32 64#32) ix0)) 0#32))
    (IntOp.subi (IntOp.divsi ArithUnit.host (BitVec.ofNat 32 n) (id (constantI S_ 32 64#32) ix0)) 1#32)
    (IntOp.divsi ArithUnit.host (BitVec.ofNat 32 n) (id (constantI S_ 32 64#32) ix0)) = BitVec.ofNat 32 (n / 64) := quot_at ⟨n, hn⟩

theorem same_head (a b : Fin 4) : IntOp.cmpi CmpIPredicate.eq (BitVec.ofNat 32 a) (BitVec.ofNat 32 b) = if (a : ℕ) = b then 1#1 else 0#1 := by
  revert a b
  decide

/-- The table of ones on the heads' blocks, whose product sums each head's lanes. -/
abbrev ones (c : Dev nD) : S256x256.Idx → EReal := V m c main_v9

theorem bd_at (c : Dev nD) (a b : Fin 256) : ones m c (ix2 a b) = if (a : ℕ) / 64 = b / 64 then 1 else 0 := by
  have e : ones m c (ix2 a b) = FloatOps.uitofp (F := Ideal) FTy.bf16 (IntOp.cmpi CmpIPredicate.eq (BitVec.ofNat 32 ((a : ℕ) / 64)) (BitVec.ofNat 32 ((b : ℕ) / 64))) := by
    unfold ones V
    after_reads_at
    simp only [quot_raw a a.isLt, quot_raw b b.isLt]
  rw [e]
  simp only [same_head ⟨(a : ℕ) / 64, by omega⟩ ⟨(b : ℕ) / 64, by omega⟩]
  split
  · show (((1#1 : BitVec 1).toNat : ℝ) : EReal) = 1
    norm_num
  · show (((0#1 : BitVec 1).toNat : ℝ) : EReal) = 0
    norm_num

end Cert.Kernel2Ideal.In
end
-- ==== Proof.InArr.lean ====
module

public import proofs.«01_k».proof.Proof.InHost
public import Idealize.ShloMosaic.Lib.Pipeline.ValueKit
public import Idealize.ShloMosaic.Lib.Pointwise

@[expose] public section

set_option maxRecDepth 16384
noncomputable section

namespace Cert.Kernel2Ideal.In
open Cert.Kernel2Ideal Cert.Kernel2Ideal.Gen Idealize.ShloMosaic Idealize.ShloMosaic.TcCoe Idealize.SL.Sem
open Idealize.ShloMosaic.Pipeline (Dat)
variable (m : (ℓ : Loc nD τ sig) → Buf (Elt Ideal) ℓ)

/-- The blocks' places, over the grid's points. -/
theorem places : ∀ t : Fin grid0.N,
    win0_0.index t = ![(grid0.coords t 0 : ℕ), 0] ∧ win0_1.index t = ![0, 0] ∧ win0_2.index t = ![0, 0] ∧ win0_3.index t = ![0, 0]
    ∧ win0_4.index t = ![0, 0] ∧ win0_5.index t = ![0, 0]
    ∧ win0_6.index t = ![(grid0.coords t 0 : ℕ), 0] ∧ win0_7.index t = ![(grid0.coords t 0 : ℕ), 0] := by decide +kernel

theorem x_blk (c : Dev nD) (t : Fin cfg0.N) (r k : Fin 1024) (n : Fin 32768) (hn : (n : ℕ) = 1024 * (grid0.coords t 0 : ℕ) + r) :
    iblk m c 0 t (ix2 r k) = V m c main_v0 (ix2 n k) := by
  have e := (places t).1
  blk_simp [iblk]
  blk_ext [e]

theorem g_blk (c : Dev nD) (t : Fin cfg0.N) (k : Fin 1024) : iblk m c 1 t (ix2 0 k) = V m c main_v10 (ix2 0 k) := by
  have e := (places t).2.1
  blk_simp [iblk]
  blk_ext [e]

theorem w_blk (c : Dev nD) (t : Fin cfg0.N) (k : Fin 1024) (j : Fin 3328) : iblk m c 2 t (ix2 k j) = V m c main_v11 (ix2 k j) := by
  have e := (places t).2.2.1
  blk_simp [iblk]
  blk_ext [e]

theorem qg_blk (c : Dev nD) (t : Fin cfg0.N) (j : Fin 512) : iblk m c 3 t (ix2 0 j) = V m c main_v15 (ix2 0 j) := by
  have e := (places t).2.2.2.1
  blk_simp [iblk]
  blk_ext [e]

theorem kg_blk (c : Dev nD) (t : Fin cfg0.N) (j : Fin 512) : iblk m c 4 t (ix2 0 j) = V m c main_v19 (ix2 0 j) := by
  have e := (places t).2.2.2.2.1
  blk_simp [iblk]
  blk_ext [e]

theorem bd_blk (c : Dev nD) (t : Fin cfg0.N) (a b : Fin 256) : iblk m c 5 t (ix2 a b) = V m c main_v9 (ix2 a b) := by
  have e := (places t).2.2.2.2.2.1
  blk_simp [iblk]
  blk_ext [e]

section Read
variable (x0 : FVec Ideal S1024x1024 .f32) (x1 : FVec Ideal S1x1024 .f32) (x2 : FVec Ideal S1024x3328 .bf16) (x3 x4 : FVec Ideal S1x512 .f32) (x5 : FVec Ideal S256x256 .bf16)

theorem ld0 (r k : Fin 1024) : View.ld (Val := Elt Ideal) (e' := .f32) x0 r0_0 (ix2 r k) = x0 (ix2 r k) :=
  View.ld_unit_apply_of _ _ _ _ _ _ fun a => by fin_cases a <;> simp
theorem ld1 (k : Fin 1024) : View.ld (Val := Elt Ideal) (e' := .f32) x1 r0_1 (ix2 0 k) = x1 (ix2 0 k) :=
  View.ld_unit_apply_of _ _ _ _ _ _ fun a => by fin_cases a <;> simp
theorem ld2 (k : Fin 1024) (j : Fin 1536) : View.ld (Val := Elt Ideal) (e' := .bf16) x2 r0_2 (ix2 k j) = x2 (ix2 k ⟨j, by omega⟩) :=
  View.ld_unit_apply_of _ _ _ _ _ _ fun a => by fin_cases a <;> simp
theorem ld3 (a b : Fin 256) : View.ld (Val := Elt Ideal) (e' := .bf16) x5 r0_3 (ix2 a b) = x5 (ix2 a b) :=
  View.ld_unit_apply_of _ _ _ _ _ _ fun a => by fin_cases a <;> simp
theorem ld4 (j : Fin 512) : View.ld (Val := Elt Ideal) (e' := .f32) x3 r0_4 (ix2 0 j) = x3 (ix2 0 j) :=
  View.ld_unit_apply_of _ _ _ _ _ _ fun a => by fin_cases a <;> simp
theorem ld8 (k : Fin 1024) (j : Fin 1792) : View.ld (Val := Elt Ideal) (e' := .bf16) x2 r0_8 (ix2 k j) = x2 (ix2 k ⟨1536 + j, by omega⟩) :=
  View.ld_unit_apply_of _ _ _ _ _ _ fun a => by fin_cases a <;> simp

/-- A column of the projections, from the blocks. -/
theorem pay9_at (r : Fin 1024) (j : Fin 1536) :
    (k0_pay9 (F := Ideal) x0 x1 x2 x3 x4 x5 (ix2 r j) : EReal) = proj (fun i => x0 (ix2 r i)) (fun i => x1 (ix2 0 i)) (fun i => x2 (ix2 i ⟨j, by omega⟩)) := by
  refine (pay6_at _ _ _ r j).trans ?_
  exact proj_congr (fun i => ld0 x0 r i) (fun i => ld1 x1 i) (fun i => ld2 x2 i j)

theorem ones_cast (a b : Fin 256) : (k0_pay7 (F := Ideal) (View.ld (Val := Elt Ideal) (e' := .bf16) x5 r0_3) (ix2 a b) : EReal) = x5 (ix2 a b) := by
  refine Eq.trans ?_ (ld3 x5 a b)
  pointwise [k0_pay7]

/-- What the body leaves in the first result's block. -/
theorem out6_at (qg kg : Fin 64 → EReal)
    (hbd : ∀ a b : Fin 256, (x5 (ix2 a b) : EReal) = if (a : ℕ) / 64 = b / 64 then 1 else 0)
    (hq : ∀ j : Fin 512, (x3 (ix2 0 j) : EReal) = qg ⟨j % 64, by omega⟩) (hk : ∀ j : Fin 512, (x4 (ix2 0 j) : EReal) = kg ⟨j % 64, by omega⟩)
    (r : Fin 1024) (L : Fin 1536) :
    (out0_6 (F := Ideal) x0 x1 x2 x3 x4 x5 (ix2 r L) : EReal)
      = qkv (fun j => proj (fun i => x0 (ix2 r i)) (fun i => x1 (ix2 0 i)) (fun i => x2 (ix2 i ⟨j, by omega⟩))) qg kg L := by
  unfold out0_6
  canon_tiles x h
  · have h1' : (L : ℕ) = 1024 + (x 1 : ℕ) := h1
    have hL : (L : ℕ) - 512 - 512 < 512 := by omega
    have e : x = ix2 r (⟨L - 512 - 512, hL⟩ : Fin 512) :=
      (eq_ix2 x).trans <| congrArg₂ ix2 (Fin.ext h0.symm) (Fin.ext (by show (x 1 : ℕ) = L - 512 - 512; omega))
    subst e
    rw [qkv, dif_neg (by omega), dif_neg (by omega)]
    exact (pay3_at _ r _).trans (pay9_at x0 x1 x2 x3 x4 x5 r _)
  · have h1' : (L : ℕ) = 512 + (x 1 : ℕ) := h1
    have hL : (L : ℕ) - 512 < 512 := by omega
    have e : x = ix2 r (⟨L - 512, hL⟩ : Fin 512) :=
      (eq_ix2 x).trans <| congrArg₂ ix2 (Fin.ext h0.symm) (Fin.ext (by show (x 1 : ℕ) = L - 512; omega))
    subst e
    rw [qkv, dif_neg (by omega), dif_pos hL]
    refine (pay2_at _ _ _ r _ (fun a b => ?_) kg ?_).trans (normed_congr (fun i => pay9_at x0 x1 x2 x3 x4 x5 r i) _ _ _ _)
    · exact (ones_cast x5 a b).trans (hbd a b)
    · exact (ld4 x4 _).trans (hk _)
  · have h1' : (L : ℕ) = (x 1 : ℕ) := h1
    have hL : (L : ℕ) < 512 := by omega
    have e : x = ix2 r (⟨L, hL⟩ : Fin 512) :=
      (eq_ix2 x).trans <| congrArg₂ ix2 (Fin.ext h0.symm) (Fin.ext h1'.symm)
    subst e
    rw [qkv, dif_pos hL]
    refine (pay1_at _ _ _ _ _ _ r _ (fun a b => ?_) qg ?_).trans
      (congrArg (fun y : EReal => y * Ideal.ofBits .f32 0x3E000000#32) (normed_congr (fun i => pay9_at x0 x1 x2 x3 x4 x5 r i) _ _ _ _))
    · exact (ld3 x5 a b).trans (hbd a b)
    · exact (ld4 x3 _).trans (hq _)

/-- What the body leaves in the second result's block. -/
theorem out7_at (r : Fin 1024) (j : Fin 1792) :
    (out0_7 (F := Ideal) x0 x1 x2 x3 x4 x5 (ix2 r j) : EReal)
      = proj (fun i => x0 (ix2 r i)) (fun i => x1 (ix2 0 i)) (fun i => x2 (ix2 i ⟨1536 + j, by omega⟩)) := by
  unfold out0_7
  canon_tiles x h
  have e : x = ix2 r j :=
    (eq_ix2 x).trans <| congrArg₂ ix2 (Fin.ext h0.symm) (Fin.ext h1.symm)
  subst e
  refine (pay4_at _ _ r j).trans ?_
  refine (Finset.sum_congr rfl fun k _ => congrArg₂ (fun a b : EReal => a * b) (pay5_at _ _ r k) (ld8 x2 k j)).trans ?_
  exact proj_congr (fun i => ld0 x0 r i) (fun i => ld1 x1 i) (fun _ => rfl)
end Read

/-- The rows' entries, and the gains and weights, as plain functions. -/
abbrev X (c : Dev nD) (n : Fin 32768) (k : Fin 1024) : EReal := m ((c : Thread nD τ).loc main_arg0) (ix3 ⟨n / 8192, by omega⟩ ⟨n % 8192, by omega⟩ k)
abbrev G (c : Dev nD) (k : Fin 1024) : EReal := m ((c : Thread nD τ).loc main_arg1) (ix1 k)
abbrev W (c : Dev nD) (k : Fin 1024) (j : Fin 3328) : EReal := m ((c : Thread nD τ).loc main_arg2) (ix2 k j)
abbrev QG (c : Dev nD) (d : Fin 64) : EReal := m ((c : Thread nD τ).loc main_arg3) (ix1 d)
abbrev KG (c : Dev nD) (d : Fin 64) : EReal := m ((c : Thread nD τ).loc main_arg4) (ix1 d)

/-- The first result at a row and a lane. -/
def spec6 (c : Dev nD) (n : Fin 32768) (L : Fin 1536) : EReal :=
  qkv (fun j => proj (X m c n) (G m c) (fun k => W m c k ⟨j, by omega⟩)) (QG m c) (KG m c) L

/-- The second result at a row and a column. -/
def spec7 (c : Dev nD) (n : Fin 32768) (j : Fin 1792) : EReal := proj (X m c n) (G m c) (fun k => W m c k ⟨1536 + j, by omega⟩)

theorem block6 (c : Dev nD) (t : Fin cfg0.N) (r : Fin 1024) (L : Fin 1536) (n : Fin 32768) (hn : (n : ℕ) = 1024 * (grid0.coords t 0 : ℕ) + r) :
    (out0_6 (F := Ideal) (iblk m c 0 t) (iblk m c 1 t) (iblk m c 2 t) (iblk m c 3 t) (iblk m c 4 t) (iblk m c 5 t) (ix2 r L) : EReal) = spec6 m c n L :=
  (out6_at _ _ _ _ _ _ (QG m c) (KG m c) (fun a b => (bd_blk m c t a b).trans (bd_at m c a b))
      (fun j => (qg_blk m c t j).trans (qg_at m c j)) (fun j => (kg_blk m c t j).trans (kg_at m c j)) r L).trans
    (qkv_congr (fun j => proj_congr (fun k => (x_blk m c t r k n hn).trans (x_at m c n k)) (fun k => (g_blk m c t k).trans (g_at m c k))
      (fun k => (w_blk m c t k _).trans (w_at m c k _))) (fun _ => rfl) (fun _ => rfl) L)

theorem block7 (c : Dev nD) (t : Fin cfg0.N) (r : Fin 1024) (j : Fin 1792) (n : Fin 32768) (hn : (n : ℕ) = 1024 * (grid0.coords t 0 : ℕ) + r) :
    (out0_7 (F := Ideal) (iblk m c 0 t) (iblk m c 1 t) (iblk m c 2 t) (iblk m c 3 t) (iblk m c 4 t) (iblk m c 5 t) (ix2 r j) : EReal) = spec7 m c n j :=
  (out7_at _ _ _ _ _ _ r j).trans
    (proj_congr (fun k => (x_blk m c t r k n hn).trans (x_at m c n k)) (fun k => (g_blk m c t k).trans (g_at m c k))
      (fun k => (w_blk m c t k _).trans (w_at m c k _)))

/-- The first output array after the run. -/
theorem final6 (c : Dev nD) : (dats m 0 c).arrAt 6 cfg0.N = fun z : S32768x1536.Idx => spec6 m c (z 0) (z 1) := by
  refine (dats m 0 c).arrAt_eq_of_covers 6 _ (by decide +kernel) fun t hf y => ?_
  have e := (places t).2.2.2.2.2.2.1
  blk_simp
  rw [after0_6]
  have hL : (win0_6.blk t).view.emb y 1 = y 1 := Fin.ext (by blk_simp [e])
  refine (congrArg (out0_6 (F := Ideal) (iblk m c 0 t) (iblk m c 1 t) (iblk m c 2 t) (iblk m c 3 t) (iblk m c 4 t) (iblk m c 5 t)) (eq_ix2 (n0 := 1024) (n1 := 1536) y)).trans ?_
  rw [hL]
  refine block6 m c t (y 0) (y 1) _ ?_
  blk_simp [e]; omega

/-- The second output array after the run. -/
theorem final7 (c : Dev nD) : (dats m 0 c).arrAt 7 cfg0.N = fun z : S32768x1792.Idx => spec7 m c (z 0) (z 1) := by
  refine (dats m 0 c).arrAt_eq_of_covers 7 _ (by decide +kernel) fun t hf y => ?_
  have e := (places t).2.2.2.2.2.2.2
  blk_simp
  rw [after0_7]
  have hL : (win0_7.blk t).view.emb y 1 = y 1 := Fin.ext (by blk_simp [e])
  refine (congrArg (out0_7 (F := Ideal) (iblk m c 0 t) (iblk m c 1 t) (iblk m c 2 t) (iblk m c 3 t) (iblk m c 4 t) (iblk m c 5 t)) (eq_ix2 (n0 := 1024) (n1 := 1792) y)).trans ?_
  rw [hL]
  refine block7 m c t (y 0) (y 1) _ ?_
  blk_simp [e]; omega

end Cert.Kernel2Ideal.In
end
-- ==== Proof.InRef.lean ====
module

public import proofs.«01_k».proof.Proof.Gen.Reference2Ideal.Run
public import proofs.«01_k».proof.Proof.In
public import Idealize.ShloMosaic.Lib.Pointwise

@[expose] public section

set_option maxRecDepth 16384
noncomputable section

namespace Cert.Reference2Ideal.Read
open Cert.Reference2Ideal Cert.Reference2Ideal.Gen Cert.Reference2Ideal.Value Idealize.ShloMosaic Idealize.ShloMosaic.TcCoe Idealize.SL.Sem
open Idealize.ShloMosaic.StableHlo

variable (m : (ℓ : Loc nD τ sig) → Buf (Elt Ideal) ℓ)

/-- The rows' entries, and the gains and weights, as plain functions. -/
abbrev X (c : Dev nD) (n : Fin 32768) (k : Fin 1024) : EReal := m ((c : Thread nD τ).loc main_arg0) (ix3 ⟨n / 8192, by omega⟩ ⟨n % 8192, by omega⟩ k)
abbrev G (c : Dev nD) (k : Fin 1024) : EReal := m ((c : Thread nD τ).loc main_arg1) (ix1 k)
abbrev W (c : Dev nD) (k : Fin 1024) (j : Fin 3328) : EReal := m ((c : Thread nD τ).loc main_arg2) (ix2 k j)
abbrev QG (c : Dev nD) (d : Fin 64) : EReal := m ((c : Thread nD τ).loc main_arg3) (ix1 d)
abbrev KG (c : Dev nD) (d : Fin 64) : EReal := m ((c : Thread nD τ).loc main_arg4) (ix1 d)
abbrev res0 (c : Dev nD) : S32768x1536.Idx → EReal := res_main_v52 m c

/-- Dividing by 64 is multiplying by a sixty-fourth. -/
theorem div_64 (x : EReal) : Ideal.div x (Ideal.ofBits .f32 0x42800000#32) = x * Ideal.ofBits .f32 0x3C800000#32 := by
  have h64 : Ideal.ofBits .f32 0x42800000#32 = ((64 : ℝ) : EReal) := by
    simp [Ideal.ofBits, Ideal.ieee, -EReal.coe_mul]; norm_num
  have hinv : Ideal.ofBits .f32 0x3C800000#32 = ((1 / 64 : ℝ) : EReal) := by
    simp [Ideal.ofBits, Ideal.ieee, -EReal.coe_mul]; norm_num
  rw [h64, hinv, Ideal.div_coe (by norm_num)]

/-- The first result: the queries, keys and values of a row. -/
theorem res0_at (c : Dev nD) (n : Fin 32768) (L : Fin 1536) :
    res0 m c (ix2 n L) = Cert.Kernel2Ideal.In.qkv (fun j => Cert.Kernel2Ideal.In.proj (X m c n) (G m c) (fun k => W m c k ⟨j, by omega⟩)) (QG m c) (KG m c) L := by
  unfold res0
  pointwise [res_main_v52]
  simp only [div_64, Cert.Kernel2Ideal.In.qkv, Cert.Kernel2Ideal.In.normed, Cert.Kernel2Ideal.In.head, Cert.Kernel2Ideal.In.proj, Cert.Kernel2Ideal.In.hid, Nat.zero_add]

/-- The second result's array: the other projections of every row. -/
def other (x : FVec Ideal S4x8192x1024 .f32) (g : FVec Ideal S1024 .f32) (w : FVec Ideal S1024x3328 .f32) : FVec Ideal S32768x1792 .bf16 :=
  truncf .bf16 (shapeCast _ (extractStridedSlice S4x8192x1792 ![0, 0, 1536] (Host.dotGeneral dot_S4x8192x1024_S1024x3328_S4x8192x3328_2_0_01_1_n_n none (mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))) w) slices_S4x8192x3328_S4x8192x1792_0_0_1536) shapeCasts_S4x8192x1792_S32768x1792) bitsLt_bf16_f32

theorem other_at (x : FVec Ideal S4x8192x1024 .f32) (g : FVec Ideal S1024 .f32) (w : FVec Ideal S1024x3328 .f32) (n : Fin 32768) (j : Fin 1792) :
    (other x g w (ix2 n j) : EReal)
      = Cert.Kernel2Ideal.In.proj (fun k => x (ix3 ⟨n / 8192, by omega⟩ ⟨n % 8192, by omega⟩ k)) (fun k => g (ix1 k)) (fun k => w (ix2 k ⟨1536 + j, by omega⟩)) := by
  pointwise [other]
  rfl

end Cert.Reference2Ideal.Read
end
-- ==== Proof.lean ====
/- The proof of the certificate's claim. The kernel's blocks are read in `Block`, put together in `Arr`, its bias table
   is read in `Bias`; the reference is read in `Ref`, its last product in `Out`; `Pure` and `Join` compare the two.
   The input projection's blocks are read in `In` and `InArr`, its host's tables in `InHost`, its reference in `InRef`.
   The experts' kernel runs in `ExpertsBody` and `ExpertsRun`, its tables are read in `ExpertsTable`, its blocks in
   `ExpertsValue` and `ExpertsArr`, its reference in `ExpertsRef`. -/
module

public import proofs.«01_k».proof.Defs
public import proofs.«01_k».proof.Proof.ExpertsRef
public import proofs.«01_k».proof.Proof.ExpertsSame
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Bias
public import proofs.«01_k».proof.Proof.Out
public import proofs.«01_k».proof.Proof.InArr
public import proofs.«01_k».proof.Proof.InRef
public import Idealize.ShloMosaic.Lib.Quiescent

@[expose] public section

set_option maxRecDepth 16384

noncomputable section

namespace Cert.Proof

open Idealize.ShloMosaic Idealize.ShloMosaic.TcCoe Idealize.SL.Sem Cert.KernelIdeal.Tile
open Idealize.ShloMosaic.StableHlo

/-- The precondition's shape facts. -/
theorem preFacts : Cert.Pre_finite.Facts where
  bcast_S_S32768x1536 := by decide
  bcast_S_S8x192 := by decide

/-- The reference runs, keeps its arguments and leaves every semaphore at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- A value whose size is below infinity is real. -/
theorem real_of_lt (x t : EReal) (ht : t = ⊤) (h : Ideal.cmp .olt (max x (-x)) t = 1#1) : ∃ y : ℝ, x = y := by
  subst ht
  induction x with
  | bot => exact absurd h (by simp [Ideal.cmp])
  | top => exact absurd h (by simp [Ideal.cmp])
  | coe y => exact ⟨y, rfl⟩

/-- The precondition says that every argument is real. -/
theorem real_args [hP : Cert.Pre_finite.Facts] (x : FVec Ideal Cert.Pre_finite.S32768x1536 .bf16) (t : FVec Ideal Cert.Pre_finite.S8x192 .f32)
    (h : (Cert.Pre_finite.fn (F := Ideal) x t).1 = (fun _ => 1#1) ∧ (Cert.Pre_finite.fn (F := Ideal) x t).2 = (fun _ => 1#1)) :
    (∀ i, ∃ y : ℝ, (x i : EReal) = y) ∧ ∀ i, ∃ y : ℝ, (t i : EReal) = y :=
  ⟨fun i => real_of_lt (x i) (Ideal.ofBits .bf16 0x7F80#16) (by simp [Ideal.ofBits, Ideal.ieee]) (congrFun h.1 i),
    fun i => real_of_lt (t i) (Ideal.ofBits .f32 0x7F800000#32) (by simp [Ideal.ofBits, Ideal.ieee]) (congrFun h.2 i)⟩

/-- From finite arguments, kernel and reference end with the same result. -/
theorem same_result : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hargs
  refine ⟨fun c => fun z : Cert.KernelIdeal.S32768x512.Idx => spec (m ((c : Thread Cert.KernelIdeal.nD Cert.KernelIdeal.τ).loc Cert.KernelIdeal.main_arg0))
    (Cert.KernelIdeal.Gen.V m c Cert.KernelIdeal.main_v27) (z 0) (z 1), ?_, ?_⟩
  · exact (θ_run Cert.KernelIdeal.defs _ _).mono (fun r h c => ⟨(h c).1.trans (final m c), (h c).2⟩) (Cert.KernelIdeal.Value.run_blocks m g)
  · refine (θ_run Cert.ReferenceIdeal.defs _ _).mono (fun r h c => ⟨(h c).1.trans ?_, (h c).2⟩) (Cert.ReferenceIdeal.Value.run (F := Ideal) m' g')
    obtain ⟨ea, et⟩ := hargs c
    obtain ⟨hx, ht⟩ := real_args (hP := preFacts) _ _ (hpre c)
    funext z
    obtain ⟨R, L, rfl⟩ : ∃ (R : Fin 32768) (L : Fin 512), z = ix2 R L := ⟨z 0, z 1, eq_ix2 z⟩
    have hX : Cert.ReferenceIdeal.Read.X (launchContents m' c) = m ((c : Thread Cert.KernelIdeal.nD Cert.KernelIdeal.τ).loc Cert.KernelIdeal.main_arg0) := ea
    have hT : Cert.ReferenceIdeal.Read.T (launchContents m' c) = m ((c : Thread Cert.KernelIdeal.nD Cert.KernelIdeal.τ).loc Cert.KernelIdeal.main_arg1) := et
    refine (Cert.ReferenceIdeal.Read.out_eq (launchContents m' c) (Cert.KernelIdeal.Gen.V m c Cert.KernelIdeal.main_v27) (fun h r j => ?_)
      (fun i => ?_) (fun i => ?_) R L).trans ?_
    · rw [Cert.Pure.biasOf, hT]
      exact bias_at m c h r j
    · rw [hX]
      exact hx i
    · rw [hT]
      exact ht i
    · rw [hX]
      rfl

/-- The input projection's reference runs, keeps its arguments and leaves every semaphore at zero. -/
theorem frame_reference2 : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- From the same arguments, the input projection and its reference end with the same results. -/
theorem same_projection : Cert.algebraic_Kernel2Ideal_Reference2Ideal (hKernel2Ideal := Cert.Kernel2Ideal.Gen.facts)
    (hReference2Ideal := Cert.Reference2Ideal.Gen.facts) := by
  intro m g m' g' _ hargs
  refine ⟨fun c => fun z : Cert.Kernel2Ideal.S32768x1536.Idx => Cert.Kernel2Ideal.In.spec6 m c (z 0) (z 1),
    fun c => fun z : Cert.Kernel2Ideal.S32768x1792.Idx => Cert.Kernel2Ideal.In.spec7 m c (z 0) (z 1), ?_, ?_⟩
  · exact (θ_run Cert.Kernel2Ideal.defs _ _).mono
      (fun r h c => ⟨(h c).1.trans (Cert.Kernel2Ideal.In.final6 m c), (h c).2.1.trans (Cert.Kernel2Ideal.In.final7 m c), (h c).2.2⟩)
      (Cert.Kernel2Ideal.Value.run_blocks m g)
  · refine (θ_run Cert.Reference2Ideal.defs _ _).mono (fun r h c => ⟨(h c).1.trans ?_, (h c).2.1.trans ?_, (h c).2.2⟩)
      (Cert.Reference2Ideal.Value.run (F := Ideal) m' g')
    · obtain ⟨e0, e1, e2, e3, e4⟩ := hargs c
      funext z
      obtain ⟨n, L, rfl⟩ : ∃ (n : Fin 32768) (L : Fin 1536), z = ix2 n L := ⟨z 0, z 1, eq_ix2 z⟩
      exact (Cert.Reference2Ideal.Read.res0_at m' c n L).trans (Cert.Kernel2Ideal.In.qkv_congr
        (fun j => Cert.Kernel2Ideal.In.proj_congr (fun k => congrFun e0 _) (fun k => congrFun e1 _) (fun k => congrFun e2 _))
        (fun d => congrFun e3 _) (fun d => congrFun e4 _) L)
    · obtain ⟨e0, e1, e2, e3, e4⟩ := hargs c
      funext z
      obtain ⟨n, j, rfl⟩ : ∃ (n : Fin 32768) (j : Fin 1792), z = ix2 n j := ⟨z 0, z 1, eq_ix2 z⟩
      exact (Cert.Reference2Ideal.Read.other_at _ _ _ n j).trans
        (Cert.Kernel2Ideal.In.proj_congr (fun k => congrFun e0 _) (fun k => congrFun e1 _) (fun k => congrFun e2 _))

/-- The tables' precondition's shape facts. -/
theorem tableFacts : Cert.Pre_tables.Facts where
  bcast_S_S316 := by decide
  bcast_S_S1 := by decide

/-- The experts' kernel runs, keeps its arguments and leaves every semaphore at zero: at the machine's floats, -/
theorem frame_experts_bits : Cert.quiescent_Kernel3 (hKernel3 := Cert.Kernel3.Gen.facts) (hPre_tables := tableFacts) := fun m ρ hpre =>
  have h := Cert.Kernel3Ideal.Experts.of_pre (hP := tableFacts) (F := Bits) _ _ _ _ _ _ _ (hpre 0)
  Cert.Kernel3Ideal.Experts.run_same _ _ (Cert.Kernel3Ideal.Experts.frame (F := Bits) m ρ (Cert.Kernel3Ideal.Experts.ok m h.1 h.2))

/-- and at the ideal ones. -/
theorem frame_experts : Cert.quiescent_Kernel3Ideal (hKernel3Ideal := Cert.Kernel3Ideal.Gen.facts) (hPre_tables := tableFacts) := fun m ρ hpre =>
  have h := Cert.Kernel3Ideal.Experts.of_pre (hP := tableFacts) (F := Ideal) _ _ _ _ _ _ _ (hpre 0)
  Cert.Kernel3Ideal.Experts.frame (F := Ideal) m ρ (Cert.Kernel3Ideal.Experts.ok m h.1 h.2)

/-- The experts' reference runs, keeps its arguments and leaves every semaphore at zero. -/
theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- From the same arguments, the experts' kernel and its reference end with the same result. -/
theorem same_experts : Cert.algebraic_Kernel3Ideal_Reference3Ideal (hKernel3Ideal := Cert.Kernel3Ideal.Gen.facts)
    (hReference3Ideal := Cert.Reference3Ideal.Gen.facts) (hPre_tables := tableFacts) := by
  intro m g m' g' hpre hargs
  have h := Cert.Kernel3Ideal.Experts.of_pre (hP := tableFacts) (F := Ideal) _ _ _ _ _ _ _ (hpre 0)
  have hok := Cert.Kernel3Ideal.Experts.ok m h.1 h.2
  have one (c : Dev Cert.Kernel3Ideal.nD) : c = 0 := Subsingleton.elim _ _
  refine ⟨fun c => fun z : Cert.Kernel3Ideal.S161792x1024.Idx => Cert.Kernel3Ideal.Experts.spec
    (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1) (ix1 (0 : Fin 1)))
    (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3))
    (m ((c : Thread Cert.Kernel3Ideal.nD Cert.Kernel3Ideal.τ).loc Cert.Kernel3Ideal.main_arg4)) (m ((c : Thread Cert.Kernel3Ideal.nD Cert.Kernel3Ideal.τ).loc Cert.Kernel3Ideal.main_arg5))
    (m ((c : Thread Cert.Kernel3Ideal.nD Cert.Kernel3Ideal.τ).loc Cert.Kernel3Ideal.main_arg6)) (z 0) (z 1), ?_, ?_⟩
  · refine (θ_run Cert.Kernel3Ideal.defs _ _).mono (fun r hr c => ⟨(hr c).1.trans ?_, (hr c).2⟩) (Cert.Kernel3Ideal.Experts.result m g hok)
    obtain rfl := one c
    exact Cert.Kernel3Ideal.Experts.final m h.1 h.2 hok
  · refine (θ_run Cert.Reference3Ideal.defs _ _).mono (fun r hr c => ⟨(hr c).1.trans ?_, (hr c).2⟩) (Cert.Reference3Ideal.Value.run (F := Ideal) m' g')
    obtain ⟨e0, e1, e2, e3, e4, e5, e6⟩ := hargs c
    obtain rfl := one c
    funext z
    obtain ⟨p, j, rfl⟩ : ∃ (p : Fin 161792) (j : Fin 1024), z = ix2 p j := ⟨z 0, z 1, eq_ix2 z⟩
    refine (Cert.Reference3Ideal.Read.res_at m' 0 (fun i => ?_) p j).trans ?_
    · rw [congrFun e0 (ix1 i)]
      exact (h.1 i).1
    · rw [e0, e1, e2, e3, e4, e5, e6]
      rfl

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, preFacts, tableFacts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, frame_reference2,
    frame_experts_bits, frame_experts, frame_reference3, fun m ρ _ => frame_reference3 m ρ trivial,
    IdealRules.named_const.statement Cert.KernelIdeal.κ "mask" .f32 0xF149F2CA#32 ⊥ rfl, same_result, trivial, same_projection, trivial, same_experts⟩

end Cert.Proof

end
